-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "scale_log2e" .f32 0x3E38AA3B#32 ((8⁻¹ * (Real.log 2)⁻¹ : ℝ) : EReal)
  ∧ IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44_0) = v0 c
          ∧ r.2.mem ((c.tc : Thread Cert.ReferenceIdeal.nD Cert.ReferenceIdeal.τ).loc Cert.ReferenceIdeal.main_v44_1) = v1 c
          ∧ r.2.mem ((c.tc : Thread Cert.ReferenceIdeal.nD Cert.ReferenceIdeal.τ).loc Cert.ReferenceIdeal.main_v44_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x512x32x64 : Shape := ⟨4, ![4, 512, 32, 64]⟩
abbrev S4x512x32 : Shape := ⟨3, ![4, 512, 32]⟩
abbrev S3072x2x64 : Shape := ⟨3, ![3072, 2, 64]⟩
abbrev S3072x2 : Shape := ⟨2, ![3072, 2]⟩
abbrev S4x512x2x64 : Shape := ⟨4, ![4, 512, 2, 64]⟩
abbrev S4x512x2 : Shape := ⟨3, ![4, 512, 2]⟩
abbrev S_ : Shape := ⟨0, ![]⟩

class Facts : Prop where
  bcast_S_S4x512x32x64 : S_.BroadcastsInDim S4x512x32x64 (![] : Fin 0 → Fin S4x512x32x64.rank)
  bcast_S_S4x512x32 : S_.BroadcastsInDim S4x512x32 (![] : Fin 0 → Fin S4x512x32.rank)
  bcast_S_S3072x2x64 : S_.BroadcastsInDim S3072x2x64 (![] : Fin 0 → Fin S3072x2x64.rank)
  bcast_S_S3072x2 : S_.BroadcastsInDim S3072x2 (![] : Fin 0 → Fin S3072x2.rank)
  bcast_S_S4x512x2x64 : S_.BroadcastsInDim S4x512x2x64 (![] : Fin 0 → Fin S4x512x2x64.rank)
  bcast_S_S4x512x2 : S_.BroadcastsInDim S4x512x2 (![] : Fin 0 → Fin S4x512x2.rank)

variable [Facts]

def fn_part1 {F : FTy → Type} [FloatOps F] (main_arg6 : IVec S4x512x2x64 8) (main_arg8 : FVec F S4x512x2 .f32) (main_v4 : IVec S4x512x32x64 1) (main_v7 : IVec S4x512x32 1) (main_v12 : IVec S3072x2x64 1) (main_v15 : IVec S3072x2 1) (main_v16 : IVec S4x512x2x64 8) : IVec S4x512x32x64 1 × IVec S4x512x32 1 × IVec S3072x2x64 1 × IVec S3072x2 1 × IVec S4x512x2x64 1 × IVec S4x512x2 1 :=
  let main_v17 : IVec S4x512x2x64 1 := cmpi .ne main_arg6 main_v16
  let main_c_5 : IVec S_ 8 := constantI S_ 8 255#8
  let main_v18 : IVec S4x512x2x64 8 := broadcastInDim S4x512x2x64 ![] bcast_S_S4x512x2x64 main_c_5
  let main_v19 : IVec S4x512x2x64 1 := cmpi .ne main_arg6 main_v18
  let main_v20 : IVec S4x512x2x64 1 := andi main_v17 main_v19
  let main_v21 : FVec F S4x512x2 .f32 := Host.absf main_arg8
  let main_cst_6 : FVec F S_ .f32 := constant S_ .f32 0x7F800000#32
  let main_v22 : FVec F S4x512x2 .f32 := broadcastInDim S4x512x2 ![] bcast_S_S4x512x2 main_cst_6
  let main_v23 : IVec S4x512x2 1 := cmpf .olt main_v21 main_v22
  (main_v4, main_v7, main_v12, main_v15, main_v20, main_v23)

def fn {F : FTy → Type} [FloatOps F] (main_arg0 : IVec S4x512x32x64 8) (main_arg1 : FVec F S4x512x32 .f32) (main_arg2 : IVec S3072x2x64 8) (main_arg3 : FVec F S3072x2x64 .fp8e4m3) (main_arg4 : FVec F S3072x2 .f32) (main_arg5 : FVec F S3072x2 .f32) (main_arg6 : IVec S4x512x2x64 8) (main_arg7 : FVec F S4x512x2x64 .fp8e4m3) (main_arg8 : FVec F S4x512x2 .f32) (main_arg9 : FVec F S4x512x2 .f32) : IVec S4x512x32x64 1 × IVec S4x512x32 1 × IVec S3072x2x64 1 × IVec S3072x2 1 × IVec S4x512x2x64 1 × IVec S4x512x2 1 :=
  let main_c : IVec S_ 8 := constantI S_ 8 127#8
  let main_v0 : IVec S4x512x32x64 8 := broadcastInDim S4x512x32x64 ![] bcast_S_S4x512x32x64 main_c
  let main_v1 : IVec S4x512x32x64 1 := cmpi .ne main_arg0 main_v0
  let main_c_0 : IVec S_ 8 := constantI S_ 8 255#8
  let main_v2 : IVec S4x512x32x64 8 := broadcastInDim S4x512x32x64 ![] bcast_S_S4x512x32x64 main_c_0
  let main_v3 : IVec S4x512x32x64 1 := cmpi .ne main_arg0 main_v2
  let main_v4 : IVec S4x512x32x64 1 := andi main_v1 main_v3
  let main_v5 : FVec F S4x512x32 .f32 := Host.absf main_arg1
  let main_cst : FVec F S_ .f32 := constant S_ .f32 0x7F800000#32
  let main_v6 : FVec F S4x512x32 .f32 := broadcastInDim S4x512x32 ![] bcast_S_S4x512x32 main_cst
  let main_v7 : IVec S4x512x32 1 := cmpf .olt main_v5 main_v6
  let main_c_1 : IVec S_ 8 := constantI S_ 8 127#8
  let main_v8 : IVec S3072x2x64 8 := broadcastInDim S3072x2x64 ![] bcast_S_S3072x2x64 main_c_1
  let main_v9 : IVec S3072x2x64 1 := cmpi .ne main_arg2 main_v8
  let main_c_2 : IVec S_ 8 := constantI S_ 8 255#8
  let main_v10 : IVec S3072x2x64 8 := broadcastInDim S3072x2x64 ![] bcast_S_S3072x2x64 main_c_2
  let main_v11 : IVec S3072x2x64 1 := cmpi .ne main_arg2 main_v10
  let main_v12 : IVec S3072x2x64 1 := andi main_v9 main_v11
  let main_v13 : FVec F S3072x2 .f32 := Host.absf main_arg4
  let main_cst_3 : FVec F S_ .f32 := constant S_ .f32 0x7F800000#32
  let main_v14 : FVec F S3072x2 .f32 := broadcastInDim S3072x2 ![] bcast_S_S3072x2 main_cst_3
  let main_v15 : IVec S3072x2 1 := cmpf .olt main_v13 main_v14
  let main_c_4 : IVec S_ 8 := constantI S_ 8 127#8
  let main_v16 : IVec S4x512x2x64 8 := broadcastInDim S4x512x2x64 ![] bcast_S_S4x512x2x64 main_c_4
  fn_part1 (F := F) main_arg6 main_arg8 main_v4 main_v7 main_v12 main_v15 main_v16
-- ==== Kernel.lean ====
abbrev S4x512x32x64 : Shape := ⟨4, ![4, 512, 32, 64]⟩
abbrev S4x512x32 : Shape := ⟨3, ![4, 512, 32]⟩
abbrev S3072x2x64 : Shape := ⟨3, ![3072, 2, 64]⟩
abbrev S3072x2 : Shape := ⟨2, ![3072, 2]⟩
abbrev S4x512x2x64 : Shape := ⟨4, ![4, 512, 2, 64]⟩
abbrev S4x512x2 : Shape := ⟨3, ![4, 512, 2]⟩
abbrev S2048x2048 : Shape := ⟨2, ![2048, 2048]⟩
abbrev S2048x8x4 : Shape := ⟨3, ![2048, 8, 4]⟩
abbrev S8x4x2048 : Shape := ⟨3, ![8, 4, 2048]⟩
abbrev S2x3072x64 : Shape := ⟨3, ![2, 3072, 64]⟩
abbrev S2x64x3072 : Shape := ⟨3, ![2, 64, 3072]⟩
abbrev S2x3072 : Shape := ⟨2, ![2, 3072]⟩
abbrev S2x1x3072 : Shape := ⟨3, ![2, 1, 3072]⟩
abbrev S2x3072x1 : Shape := ⟨3, ![2, 3072, 1]⟩
abbrev S2x4x512x64 : Shape := ⟨4, ![2, 4, 512, 64]⟩
abbrev S8x512x64 : Shape := ⟨3, ![8, 512, 64]⟩
abbrev S2x4x64x512 : Shape := ⟨4, ![2, 4, 64, 512]⟩
abbrev S8x64x512 : Shape := ⟨3, ![8, 64, 512]⟩
abbrev S2x4x512 : Shape := ⟨3, ![2, 4, 512]⟩
abbrev S8x512 : Shape := ⟨2, ![8, 512]⟩
abbrev S8x1x512 : Shape := ⟨3, ![8, 1, 512]⟩
abbrev S8x512x1 : Shape := ⟨3, ![8, 512, 1]⟩
abbrev S256x256 : Shape := ⟨2, ![256, 256]⟩
abbrev S1x4x256 : Shape := ⟨3, ![1, 4, 256]⟩
abbrev S1x3072x64 : Shape := ⟨3, ![1, 3072, 64]⟩
abbrev S1x64x3072 : Shape := ⟨3, ![1, 64, 3072]⟩
abbrev S1x1x3072 : Shape := ⟨3, ![1, 1, 3072]⟩
abbrev S1x3072x1 : Shape := ⟨3, ![1, 3072, 1]⟩
abbrev S1x512x64 : Shape := ⟨3, ![1, 512, 64]⟩
abbrev S1x64x512 : Shape := ⟨3, ![1, 64, 512]⟩
abbrev S1x1x512 : Shape := ⟨3, ![1, 1, 512]⟩
abbrev S1x512x1 : Shape := ⟨3, ![1, 512, 1]⟩
abbrev S256x64 : Shape := ⟨2, ![256, 64]⟩
abbrev S1x1x256 : Shape := ⟨3, ![1, 1, 256]⟩
abbrev S1x256 : Shape := ⟨2, ![1, 256]⟩
abbrev S64x256 : Shape := ⟨2, ![64, 256]⟩
abbrev S512x64 : Shape := ⟨2, ![512, 64]⟩
abbrev S512x256 : Shape := ⟨2, ![512, 256]⟩
abbrev S512x1 : Shape := ⟨2, ![512, 1]⟩
abbrev S256 : Shape := ⟨1, ![256]⟩
abbrev S64x512 : Shape := ⟨2, ![64, 512]⟩
abbrev S1x512 : Shape := ⟨2, ![1, 512]⟩

abbrev nBuf : Space → Nat
  | .hbm => 35
  | .vmem => 26
  | .smem => 0
  | _ => 0

abbrev bufTy : (tb : Table) → Fin (tcTables nBuf tb) → BufTy
  | .hbm, ⟨0, _⟩ => ⟨S4x512x32x64, .i8⟩
  | .hbm, ⟨1, _⟩ => ⟨S4x512x32, .f32⟩
  | .hbm, ⟨2, _⟩ => ⟨S3072x2x64, .i8⟩
  | .hbm, ⟨3, _⟩ => ⟨S3072x2x64, .fp8e4m3⟩
  | .hbm, ⟨4, _⟩ => ⟨S3072x2, .f32⟩
  | .hbm, ⟨5, _⟩ => ⟨S3072x2, .f32⟩
  | .hbm, ⟨6, _⟩ => ⟨S4x512x2x64, .i8⟩
  | .hbm, ⟨7, _⟩ => ⟨S4x512x2x64, .fp8e4m3⟩
  | .hbm, ⟨8, _⟩ => ⟨S4x512x2, .f32⟩
  | .hbm, ⟨9, _⟩ => ⟨S4x512x2, .f32⟩
  | .hbm, ⟨10, _⟩ => ⟨S4x512x32x64, .fp8e4m3⟩
  | .hbm, ⟨11, _⟩ => ⟨S3072x2x64, .fp8e4m3⟩
  | .hbm, ⟨12, _⟩ => ⟨S4x512x2x64, .fp8e4m3⟩
  | .hbm, ⟨13, _⟩ => ⟨S2048x2048, .fp8e4m3⟩
  | .hbm, ⟨14, _⟩ => ⟨S2048x8x4, .f32⟩
  | .hbm, ⟨15, _⟩ => ⟨S8x4x2048, .f32⟩
  | .hbm, ⟨16, _⟩ => ⟨S2x3072x64, .fp8e4m3⟩
  | .hbm, ⟨17, _⟩ => ⟨S2x64x3072, .fp8e4m3⟩
  | .hbm, ⟨18, _⟩ => ⟨S2x3072, .f32⟩
  | .hbm, ⟨19, _⟩ => ⟨S2x1x3072, .f32⟩
  | .hbm, ⟨20, _⟩ => ⟨S2x3072, .f32⟩
  | .hbm, ⟨21, _⟩ => ⟨S2x3072x1, .f32⟩
  | .hbm, ⟨22, _⟩ => ⟨S2x4x512x64, .fp8e4m3⟩
  | .hbm, ⟨23, _⟩ => ⟨S8x512x64, .fp8e4m3⟩
  | .hbm, ⟨24, _⟩ => ⟨S2x4x64x512, .fp8e4m3⟩
  | .hbm, ⟨25, _⟩ => ⟨S8x64x512, .fp8e4m3⟩
  | .hbm, ⟨26, _⟩ => ⟨S2x4x512, .f32⟩
  | .hbm, ⟨27, _⟩ => ⟨S8x512, .f32⟩
  | .hbm, ⟨28, _⟩ => ⟨S8x1x512, .f32⟩
  | .hbm, ⟨29, _⟩ => ⟨S2x4x512, .f32⟩
  | .hbm, ⟨30, _⟩ => ⟨S8x512, .f32⟩
  | .hbm, ⟨31, _⟩ => ⟨S8x512x1, .f32⟩
  | .hbm, ⟨32, _⟩ => ⟨S2048x2048, .bf16⟩
  | .hbm, ⟨33, _⟩ => ⟨S8x4x2048, .f32⟩
  | .hbm, ⟨34, _⟩ => ⟨S8x4x2048, .f32⟩
  | .local _ .vmem, ⟨0, _⟩ => ⟨S256x256, .fp8e4m3⟩
  | .local _ .vmem, ⟨1, _⟩ => ⟨S256x256, .fp8e4m3⟩
  | .local _ .vmem, ⟨2, _⟩ => ⟨S1x4x256, .f32⟩
  | .local _ .vmem, ⟨3, _⟩ => ⟨S1x4x256, .f32⟩
  | .local _ .vmem, ⟨4, _⟩ => ⟨S1x3072x64, .fp8e4m3⟩
  | .local _ .vmem, ⟨5, _⟩ => ⟨S1x3072x64, .fp8e4m3⟩
  | .local _ .vmem, ⟨6, _⟩ => ⟨S1x64x3072, .fp8e4m3⟩
  | .local _ .vmem, ⟨7, _⟩ => ⟨S1x64x3072, .fp8e4m3⟩
  | .local _ .vmem, ⟨8, _⟩ => ⟨S1x1x3072, .f32⟩
  | .local _ .vmem, ⟨9, _⟩ => ⟨S1x1x3072, .f32⟩
  | .local _ .vmem, ⟨10, _⟩ => ⟨S1x3072x1, .f32⟩
  | .local _ .vmem, ⟨11, _⟩ => ⟨S1x3072x1, .f32⟩
  | .local _ .vmem, ⟨12, _⟩ => ⟨S1x512x64, .fp8e4m3⟩
  | .local _ .vmem, ⟨13, _⟩ => ⟨S1x512x64, .fp8e4m3⟩
  | .local _ .vmem, ⟨14, _⟩ => ⟨S1x64x512, .fp8e4m3⟩
  | .local _ .vmem, ⟨15, _⟩ => ⟨S1x64x512, .fp8e4m3⟩
  | .local _ .vmem, ⟨16, _⟩ => ⟨S1x1x512, .f32⟩
  | .local _ .vmem, ⟨17, _⟩ => ⟨S1x1x512, .f32⟩
  | .local _ .vmem, ⟨18, _⟩ => ⟨S1x512x1, .f32⟩
  | .local _ .vmem, ⟨19, _⟩ => ⟨S1x512x1, .f32⟩
  | .local _ .vmem, ⟨20, _⟩ => ⟨S256x256, .bf16⟩
  | .local _ .vmem, ⟨21, _⟩ => ⟨S256x256, .bf16⟩
  | .local _ .vmem, ⟨22, _⟩ => ⟨S1x4x256, .f32⟩
  | .local _ .vmem, ⟨23, _⟩ => ⟨S1x4x256, .f32⟩
  | .local _ .vmem, ⟨24, _⟩ => ⟨S1x4x256, .f32⟩
  | .local _ .vmem, ⟨25, _⟩ => ⟨S1x4x256, .f32⟩
  | _, _ => ⟨S4x512x32x64, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![2, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c2_i32 : BitVec 32 := 2#32
  let v1 : BitVec 32 := Scalar.divsi arg1 c2_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c0_i32_4 : BitVec 32 := 0#32
  let c0_i32_5 : BitVec 32 := 0#32
  let c0_i32_6 : BitVec 32 := 0#32
  ![v18.toNat, c0_i32_4.toNat, c0_i32_5.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c2_i32 : BitVec 32 := 2#32
  let v1 : BitVec 32 := Scalar.divsi arg1 c2_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c0_i32_4 : BitVec 32 := 0#32
  let c0_i32_5 : BitVec 32 := 0#32
  let c0_i32_6 : BitVec 32 := 0#32
  ![v18.toNat, c0_i32_4.toNat, c0_i32_5.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c2_i32 : BitVec 32 := 2#32
  let v1 : BitVec 32 := Scalar.divsi arg1 c2_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c0_i32_4 : BitVec 32 := 0#32
  let c0_i32_5 : BitVec 32 := 0#32
  let c0_i32_6 : BitVec 32 := 0#32
  ![v18.toNat, c0_i32_4.toNat, c0_i32_5.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c2_i32 : BitVec 32 := 2#32
  let v1 : BitVec 32 := Scalar.divsi arg1 c2_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c0_i32_4 : BitVec 32 := 0#32
  let c0_i32_5 : BitVec 32 := 0#32
  let c0_i32_6 : BitVec 32 := 0#32
  ![v18.toNat, c0_i32_4.toNat, c0_i32_5.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, c0_i32.toNat, arg1.toNat]

abbrev stage0_0 : Fin 2 → Memref sig .tc .vmem S256x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x3072x64 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x64x3072 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x3072x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x512x64 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x64x512 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x4x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x4x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== KernelIdeal.lean ====
variable {F : FTy → Type} [FloatOps F] [Named F]
def κ : String → Option EReal := fun
  | "ln2" => some ((Real.log 2 : ℝ) : EReal)
  | "mask" => some ⊥
  | "scale_log2e" => some ((8⁻¹ * (Real.log 2)⁻¹ : ℝ) : EReal)
  | _ => none
-- ==== ReferenceIdeal.lean ====
abbrev S4x512x32x64 : Shape := ⟨4, ![4, 512, 32, 64]⟩
abbrev S4x512x32 : Shape := ⟨3, ![4, 512, 32]⟩
abbrev S3072x2x64 : Shape := ⟨3, ![3072, 2, 64]⟩
abbrev S3072x2 : Shape := ⟨2, ![3072, 2]⟩
abbrev S4x512x2x64 : Shape := ⟨4, ![4, 512, 2, 64]⟩
abbrev S4x512x2 : Shape := ⟨3, ![4, 512, 2]⟩
abbrev S2048x32x64 : Shape := ⟨3, ![2048, 32, 64]⟩
abbrev S32x2048x64 : Shape := ⟨3, ![32, 2048, 64]⟩
abbrev S2048x32 : Shape := ⟨2, ![2048, 32]⟩
abbrev S32x2048 : Shape := ⟨2, ![32, 2048]⟩
abbrev S32x2048x1 : Shape := ⟨3, ![32, 2048, 1]⟩
abbrev S2x3072x64 : Shape := ⟨3, ![2, 3072, 64]⟩
abbrev S2x1x3072x64 : Shape := ⟨4, ![2, 1, 3072, 64]⟩
abbrev S2x16x3072x64 : Shape := ⟨4, ![2, 16, 3072, 64]⟩
abbrev S32x3072x64 : Shape := ⟨3, ![32, 3072, 64]⟩
abbrev S2x3072 : Shape := ⟨2, ![2, 3072]⟩
abbrev S2x1x3072 : Shape := ⟨3, ![2, 1, 3072]⟩
abbrev S2x16x3072 : Shape := ⟨3, ![2, 16, 3072]⟩
abbrev S32x3072 : Shape := ⟨2, ![32, 3072]⟩
abbrev S32x1x3072 : Shape := ⟨3, ![32, 1, 3072]⟩
abbrev S2x4x512x64 : Shape := ⟨4, ![2, 4, 512, 64]⟩
abbrev S2x1x4x512x64 : Shape := ⟨5, ![2, 1, 4, 512, 64]⟩
abbrev S2x16x4x512x64 : Shape := ⟨5, ![2, 16, 4, 512, 64]⟩
abbrev S128x512x64 : Shape := ⟨3, ![128, 512, 64]⟩
abbrev S2x4x512 : Shape := ⟨3, ![2, 4, 512]⟩
abbrev S2x1x4x512 : Shape := ⟨4, ![2, 1, 4, 512]⟩
abbrev S2x16x4x512 : Shape := ⟨4, ![2, 16, 4, 512]⟩
abbrev S128x512 : Shape := ⟨2, ![128, 512]⟩
abbrev S128x1x512 : Shape := ⟨3, ![128, 1, 512]⟩
abbrev S2048x2048 : Shape := ⟨2, ![2048, 2048]⟩
abbrev S8x4x2048 : Shape := ⟨3, ![8, 4, 2048]⟩
abbrev S32x2048x3072 : Shape := ⟨3, ![32, 2048, 3072]⟩
abbrev S128x512x512 : Shape := ⟨3, ![128, 512, 512]⟩
abbrev S128x512x1 : Shape := ⟨3, ![128, 512, 1]⟩

abbrev nBuf : Space → Nat
  | .hbm => 57
  | .vmem => 13
  | .smem => 0
  | _ => 0

abbrev bufTy : (tb : Table) → Fin (tcTables nBuf tb) → BufTy
  | .hbm, ⟨0, _⟩ => ⟨S4x512x32x64, .i8⟩
  | .hbm, ⟨1, _⟩ => ⟨S4x512x32, .f32⟩
  | .hbm, ⟨2, _⟩ => ⟨S3072x2x64, .i8⟩
  | .hbm, ⟨3, _⟩ => ⟨S3072x2x64, .fp8e4m3⟩
  | .hbm, ⟨4, _⟩ => ⟨S3072x2, .f32⟩
  | .hbm, ⟨5, _⟩ => ⟨S3072x2, .f32⟩
  | .hbm, ⟨6, _⟩ => ⟨S4x512x2x64, .i8⟩
  | .hbm, ⟨7, _⟩ => ⟨S4x512x2x64, .fp8e4m3⟩
  | .hbm, ⟨8, _⟩ => ⟨S4x512x2, .f32⟩
  | .hbm, ⟨9, _⟩ => ⟨S4x512x2, .f32⟩
  | .hbm, ⟨10, _⟩ => ⟨S4x512x32x64, .fp8e4m3⟩
  | .hbm, ⟨11, _⟩ => ⟨S3072x2x64, .fp8e4m3⟩
  | .hbm, ⟨12, _⟩ => ⟨S4x512x2x64, .fp8e4m3⟩
  | .hbm, ⟨13, _⟩ => ⟨S2048x32x64, .fp8e4m3⟩
  | .hbm, ⟨14, _⟩ => ⟨S32x2048x64, .fp8e4m3⟩
  | .hbm, ⟨15, _⟩ => ⟨S2048x32, .f32⟩
  | .hbm, ⟨16, _⟩ => ⟨S32x2048, .f32⟩
  | .hbm, ⟨17, _⟩ => ⟨S32x2048x1, .f32⟩
  | .hbm, ⟨18, _⟩ => ⟨S2x3072x64, .fp8e4m3⟩
  | .hbm, ⟨19, _⟩ => ⟨S2x1x3072x64, .fp8e4m3⟩
  | .hbm, ⟨20, _⟩ => ⟨S2x16x3072x64, .fp8e4m3⟩
  | .hbm, ⟨21, _⟩ => ⟨S32x3072x64, .fp8e4m3⟩
  | .hbm, ⟨22, _⟩ => ⟨S2x3072, .f32⟩
  | .hbm, ⟨23, _⟩ => ⟨S2x1x3072, .f32⟩
  | .hbm, ⟨24, _⟩ => ⟨S2x16x3072, .f32⟩
  | .hbm, ⟨25, _⟩ => ⟨S32x3072, .f32⟩
  | .hbm, ⟨26, _⟩ => ⟨S32x1x3072, .f32⟩
  | .hbm, ⟨27, _⟩ => ⟨S2x3072x64, .fp8e4m3⟩
  | .hbm, ⟨28, _⟩ => ⟨S2x1x3072x64, .fp8e4m3⟩
  | .hbm, ⟨29, _⟩ => ⟨S2x16x3072x64, .fp8e4m3⟩
  | .hbm, ⟨30, _⟩ => ⟨S32x3072x64, .fp8e4m3⟩
  | .hbm, ⟨31, _⟩ => ⟨S2x3072, .f32⟩
  | .hbm, ⟨32, _⟩ => ⟨S2x1x3072, .f32⟩
  | .hbm, ⟨33, _⟩ => ⟨S2x16x3072, .f32⟩
  | .hbm, ⟨34, _⟩ => ⟨S32x3072, .f32⟩
  | .hbm, ⟨35, _⟩ => ⟨S32x1x3072, .f32⟩
  | .hbm, ⟨36, _⟩ => ⟨S2x4x512x64, .fp8e4m3⟩
  | .hbm, ⟨37, _⟩ => ⟨S2x1x4x512x64, .fp8e4m3⟩
  | .hbm, ⟨38, _⟩ => ⟨S2x16x4x512x64, .fp8e4m3⟩
  | .hbm, ⟨39, _⟩ => ⟨S128x512x64, .fp8e4m3⟩
  | .hbm, ⟨40, _⟩ => ⟨S2x4x512, .f32⟩
  | .hbm, ⟨41, _⟩ => ⟨S2x1x4x512, .f32⟩
  | .hbm, ⟨42, _⟩ => ⟨S2x16x4x512, .f32⟩
  | .hbm, ⟨43, _⟩ => ⟨S128x512, .f32⟩
  | .hbm, ⟨44, _⟩ => ⟨S128x1x512, .f32⟩
  | .hbm, ⟨45, _⟩ => ⟨S2x4x512x64, .fp8e4m3⟩
  | .hbm, ⟨46, _⟩ => ⟨S2x1x4x512x64, .fp8e4m3⟩
  | .hbm, ⟨47, _⟩ => ⟨S2x16x4x512x64, .fp8e4m3⟩
  | .hbm, ⟨48, _⟩ => ⟨S128x512x64, .fp8e4m3⟩
  | .hbm, ⟨49, _⟩ => ⟨S2x4x512, .f32⟩
  | .hbm, ⟨50, _⟩ => ⟨S2x1x4x512, .f32⟩
  | .hbm, ⟨51, _⟩ => ⟨S2x16x4x512, .f32⟩
  | .hbm, ⟨52, _⟩ => ⟨S128x512, .f32⟩
  | .hbm, ⟨53, _⟩ => ⟨S128x1x512, .f32⟩
  | .hbm, ⟨54, _⟩ => ⟨S2048x2048, .bf16⟩
  | .hbm, ⟨55, _⟩ => ⟨S8x4x2048, .f32⟩
  | .hbm, ⟨56, _⟩ => ⟨S8x4x2048, .f32⟩
  | .local _ .vmem, ⟨0, _⟩ => ⟨S32x2048x64, .fp8e4m3⟩
  | .local _ .vmem, ⟨1, _⟩ => ⟨S32x2048x1, .f32⟩
  | .local _ .vmem, ⟨2, _⟩ => ⟨S32x3072x64, .fp8e4m3⟩
  | .local _ .vmem, ⟨3, _⟩ => ⟨S32x1x3072, .f32⟩
  | .local _ .vmem, ⟨4, _⟩ => ⟨S32x3072x64, .fp8e4m3⟩
  | .local _ .vmem, ⟨5, _⟩ => ⟨S32x1x3072, .f32⟩
  | .local _ .vmem, ⟨6, _⟩ => ⟨S128x512x64, .fp8e4m3⟩
  | .local _ .vmem, ⟨7, _⟩ => ⟨S128x1x512, .f32⟩
  | .local _ .vmem, ⟨8, _⟩ => ⟨S128x512x64, .fp8e4m3⟩
  | .local _ .vmem, ⟨9, _⟩ => ⟨S128x1x512, .f32⟩
  | .local _ .vmem, ⟨10, _⟩ => ⟨S2048x2048, .bf16⟩
  | .local _ .vmem, ⟨11, _⟩ => ⟨S8x4x2048, .f32⟩
  | .local _ .vmem, ⟨12, _⟩ => ⟨S8x4x2048, .f32⟩
  | _, _ => ⟨S4x512x32x64, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44_0 : Ref sig .tc := ⟨.hbm, 54, rfl⟩
abbrev main_v44_1 : Ref sig .tc := ⟨.hbm, 55, rfl⟩
abbrev main_v44_2 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S32x2048x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x3072x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x3072x64 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x512x64 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x512x64 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x4x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x4x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Att.Softmax.lean ====
/- The mathematics of the certificate, on extended reals and free of any array: a softmax row summed piece by piece with
   a running maximum in base 2 (`Acc`), the same row in base e (`Row`), and the merge of two rows by their log-sum-exps
   (`merge`). A masked score is `⊥`, whose weight is zero. -/
module

public import Idealize.ShloMosaic.PureOps.Ideal

@[expose] public section

noncomputable section

namespace Cert.Att

open Idealize.ShloMosaic Finset

/-- A nonnegative real distributes over a sum of extended reals. -/
theorem sum_mul_coe {ι : Type} (s : Finset ι) (f : ι → EReal) {a : ℝ} (ha : 0 ≤ a) :
    (∑ i ∈ s, f i) * (a : EReal) = ∑ i ∈ s, f i * (a : EReal) := by
  classical
  induction s using Finset.induction_on with
  | empty => simp
  | insert i s hi ih =>
    rw [sum_insert hi, sum_insert hi, ← ih,
      EReal.right_distrib_of_nonneg_of_ne_top (EReal.coe_nonneg.2 ha) (EReal.coe_ne_top a)]

/-- A sum of reals is the real sum. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert i s hi ih => rw [sum_insert hi, sum_insert hi, ih, EReal.coe_add]

theorem exp2_coe (r : ℝ) : Ideal.exp2 (r : EReal) = ((2 : ℝ) ^ r : ℝ) := rfl
theorem exp_coe (r : ℝ) : Ideal.exp (r : EReal) = (Real.exp r : ℝ) := rfl
theorem log_coe {r : ℝ} (h : 0 < r) : Ideal.log (r : EReal) = (Real.log r : ℝ) := by
  show (if r ≤ 0 then (⊥ : EReal) else (Real.log r : EReal)) = _
  rw [if_neg (not_le.2 h)]

theorem coe_max (x y : ℝ) : ((max x y : ℝ) : EReal) = max (x : EReal) (y : EReal) :=
  (EReal.coe_strictMono.monotone.map_max)

/-- A difference of a score and a running maximum above it is `⊥` or a nonpositive real, so its power is a nonnegative
    real. -/
theorem exp2_sub_real {m m' : EReal} (h : m ≤ m') (h' : m' ≠ ⊤) : ∃ a : ℝ, 0 ≤ a ∧ Ideal.exp2 (m - m') = (a : EReal) := by
  induction m' with
  | top => exact absurd rfl h'
  | bot => obtain rfl := le_bot_iff.1 h; exact ⟨0, le_rfl, by simp [show Ideal.exp2 ⊥ = 0 from rfl]⟩
  | coe r' =>
    induction m with
    | bot => exact ⟨0, le_rfl, by simp [show Ideal.exp2 ⊥ = 0 from rfl]⟩
    | top => exact absurd (top_le_iff.1 h) (EReal.coe_ne_top r')
    | coe r => exact ⟨2 ^ (r - r'), by positivity, by rw [← EReal.coe_sub, exp2_coe]⟩

/-- Rescaling a weight from the old maximum to the new one. -/
theorem exp2_rescale {t m m' : EReal} (h1 : t ≤ m) (h2 : m ≤ m') (h' : m' ≠ ⊤) :
    Ideal.exp2 (t - m) * Ideal.exp2 (m - m') = Ideal.exp2 (t - m') := by
  have e0 : Ideal.exp2 ⊥ = 0 := rfl
  induction t with
  | bot => simp [e0]
  | top => exact absurd (top_le_iff.1 (h1.trans h2)) h'
  | coe t =>
    induction m' with
    | top => exact absurd rfl h'
    | bot => exact absurd (le_bot_iff.1 (h1.trans h2)) (EReal.coe_ne_bot t)
    | coe r' =>
      induction m with
      | bot => exact absurd (le_bot_iff.1 h1) (EReal.coe_ne_bot t)
      | top => exact absurd (top_le_iff.1 h2) (EReal.coe_ne_top r')
      | coe r =>
        rw [← EReal.coe_sub, ← EReal.coe_sub, ← EReal.coe_sub, exp2_coe, exp2_coe, exp2_coe, ← EReal.coe_mul,
          ← Real.rpow_add two_pos]
        congr 2; ring

/-- The state of the streamed row after its first `n` keys: the running maximum `m` of the base-2 scores `t`, the sum
    `l` of the weights and, for every lane `d`, the sum `a d` of the values `w` under them. -/
structure Acc {D : Type} (t : ℕ → EReal) (w : D → ℕ → EReal) (n : ℕ) (m l : EReal) (a : D → EReal) : Prop where
  max_eq : m = (range n).sup t
  sum_eq : l = ∑ i ∈ range n, Ideal.exp2 (t i - m)
  acc_eq : ∀ d, a d = ∑ i ∈ range n, w d i * Ideal.exp2 (t i - m)

/-- Before the first key. -/
theorem Acc.init {D : Type} (t : ℕ → EReal) (w : D → ℕ → EReal) : Acc t w 0 ⊥ 0 fun _ => 0 :=
  ⟨by simp, by simp, fun d => by simp⟩

/-- A maximum folded over `Fin k` is the supremum over the first `k` numbers. -/
theorem fold_max_eq (k : ℕ) (f : ℕ → EReal) : (univ.fold max (⊥ : EReal) fun i : Fin k => f i) = (range k).sup f := by
  have h : (univ.fold max (⊥ : EReal) fun i : Fin k => f i) = (univ : Finset (Fin k)).sup fun i => f i := rfl
  rw [h]
  apply le_antisymm
  · exact Finset.sup_le fun i _ => le_sup (f := f) (mem_range.2 i.isLt)
  · exact Finset.sup_le fun i hi => le_sup (f := fun j : Fin k => f j) (mem_univ (⟨i, mem_range.1 hi⟩ : Fin k))

/-- One chunk of `k` more keys: the maximum is raised, the old sums rescaled, the chunk's own added. -/
theorem Acc.step {D : Type} {t : ℕ → EReal} {w : D → ℕ → EReal} {n : ℕ} {m l : EReal} {a : D → EReal}
    (h : Acc t w n m l a) (k : ℕ) (ht : ∀ i < n + k, t i ≠ ⊤) {m' l' : EReal} {a' : D → EReal}
    (hm : m' = max m (univ.fold max (⊥ : EReal) fun i : Fin k => t (n + i)))
    (hl : l' = l * Ideal.exp2 (m - m') + ∑ i : Fin k, Ideal.exp2 (t (n + i) - m'))
    (ha : ∀ d, a' d = a d * Ideal.exp2 (m - m') + ∑ i : Fin k, w d (n + i) * Ideal.exp2 (t (n + i) - m')) :
    Acc t w (n + k) m' l' a' := by
  have hsup : m' = (range (n + k)).sup t := by
    rw [hm, fold_max_eq k fun i => t (n + i), h.max_eq]
    apply le_antisymm
    · refine max_le (Finset.sup_le fun i hi => le_sup (f := t) ?_) (Finset.sup_le fun i hi => le_sup (f := t) ?_)
      · exact mem_range.2 (by have := mem_range.1 hi; omega)
      · exact mem_range.2 (by have := mem_range.1 hi; omega)
    · refine Finset.sup_le fun i hi => ?_
      by_cases hin : i < n
      · exact (le_sup (f := t) (mem_range.2 hin)).trans (le_max_left _ _)
      · have hk : i - n ∈ range k := mem_range.2 (by have := mem_range.1 hi; omega)
        have := le_sup (f := fun j => t (n + j)) hk
        simp only [show n + (i - n) = i by omega] at this
        exact this.trans (le_max_right _ _)
  have hne : m' ≠ ⊤ := by
    rw [hsup]
    refine ne_of_lt ?_
    rw [Finset.sup_lt_iff bot_lt_top]
    exact fun i hi => lt_top_iff_ne_top.2 (ht i (mem_range.1 hi))
  have hmm : m ≤ m' := hm ▸ le_max_left _ _
  have hti : ∀ i ∈ range n, t i ≤ m := fun i hi => h.max_eq ▸ le_sup (f := t) hi
  obtain ⟨c, hc, hce⟩ := exp2_sub_real hmm hne
  refine ⟨hsup, ?_, fun d => ?_⟩
  · rw [hl, h.sum_eq, hce, sum_mul_coe _ _ hc, ← hce, sum_range_add, ← Fin.sum_univ_eq_sum_range (fun i => Ideal.exp2 (t (n + i) - m')) k]
    congr 1
    exact sum_congr rfl fun i hi => exp2_rescale (hti i hi) hmm hne
  · rw [ha d, h.acc_eq d, hce, sum_mul_coe _ _ hc, ← hce, sum_range_add,
      ← Fin.sum_univ_eq_sum_range (fun i => w d (n + i) * Ideal.exp2 (t (n + i) - m')) k]
    congr 1
    exact sum_congr rfl fun i hi => by rw [mul_assoc, exp2_rescale (hti i hi) hmm hne]

/-- The two forms of one row of `n` scores, `s` in base e and `t = s / log 2` in base 2, each a real or masked: the
    maximum `μ` and the sum of weights `lam` they share. -/
structure Row (n : ℕ) (s t : ℕ → EReal) (μ lam : ℝ) : Prop where
  pos : 0 < lam
  max_s : (range n).sup s = (μ : EReal)
  max_t : (range n).sup t = ((μ * (Real.log 2)⁻¹ : ℝ) : EReal)
  weight : ∀ i < n, Ideal.exp2 (t i - ((μ * (Real.log 2)⁻¹ : ℝ) : EReal)) = Ideal.exp (s i - (μ : EReal))
  sum_s : ∑ i ∈ range n, Ideal.exp (s i - (μ : EReal)) = (lam : EReal)

/-- The sum of the base-2 weights is the sum of the base-e weights. -/
theorem Row.sum_t {n : ℕ} {s t : ℕ → EReal} {μ lam : ℝ} (h : Row n s t μ lam) :
    ∑ i ∈ range n, Ideal.exp2 (t i - ((μ * (Real.log 2)⁻¹ : ℝ) : EReal)) = (lam : EReal) := by
  rw [← h.sum_s]; exact sum_congr rfl fun i hi => h.weight i (mem_range.1 hi)

/-- The base-2 score of a real score is that score over `log 2`; of a masked one, masked. -/
def Scaled (s t : EReal) : Prop := (∃ x : ℝ, s = (x : EReal) ∧ t = ((x * (Real.log 2)⁻¹ : ℝ) : EReal)) ∨ (s = ⊥ ∧ t = ⊥)

theorem exp2_eq_exp (x μ : ℝ) : (2 : ℝ) ^ (x * (Real.log 2)⁻¹ - μ * (Real.log 2)⁻¹) = Real.exp (x - μ) := by
  rw [Real.rpow_def_of_pos two_pos]
  congr 1
  have : Real.log 2 ≠ 0 := (Real.log_pos one_lt_two).ne'
  field_simp

/-- Every row with a visible key is one. -/
theorem exists_row {n : ℕ} {s t : ℕ → EReal} (h : ∀ i < n, Scaled (s i) (t i)) (hv : ∃ i < n, s i ≠ ⊥) :
    ∃ μ lam : ℝ, Row n s t μ lam := by
  have e0 : Ideal.exp2 ⊥ = 0 := rfl
  have f0 : Ideal.exp ⊥ = 0 := rfl
  obtain ⟨i1, hi1, hv1⟩ := hv
  obtain ⟨i0, hi0, hmax⟩ := exists_max_image (range n) s ⟨i1, mem_range.2 hi1⟩
  have hs0 : s i0 ≠ ⊥ := fun hb => hv1 (le_bot_iff.1 (hb ▸ hmax i1 (mem_range.2 hi1)))
  obtain ⟨μ, hμ, hμt⟩ := (h i0 (mem_range.1 hi0)).resolve_right fun hb => hs0 hb.1
  have hlog : 0 < (Real.log 2)⁻¹ := inv_pos.2 (Real.log_pos one_lt_two)
  have hsup : (range n).sup s = (μ : EReal) :=
    le_antisymm (Finset.sup_le fun i hi => hμ ▸ hmax i hi) (hμ ▸ le_sup (f := s) hi0)
  have hsupt : (range n).sup t = ((μ * (Real.log 2)⁻¹ : ℝ) : EReal) := by
    refine le_antisymm (Finset.sup_le fun i hi => ?_) (hμt ▸ le_sup (f := t) hi0)
    rcases h i (mem_range.1 hi) with ⟨x, hx, hxt⟩ | ⟨-, hxt⟩
    · have := hmax i hi
      rw [hx, hμ, EReal.coe_le_coe_iff] at this
      rw [hxt, EReal.coe_le_coe_iff]
      exact mul_le_mul_of_nonneg_right this hlog.le
    · rw [hxt]; exact bot_le
  have hw : ∀ i < n, ∃ y : ℝ, 0 ≤ y ∧ Ideal.exp (s i - (μ : EReal)) = (y : EReal) := by
    intro i hi
    rcases h i hi with ⟨x, hx, -⟩ | ⟨hx, -⟩
    · exact ⟨Real.exp (x - μ), (Real.exp_pos _).le, by rw [hx, ← EReal.coe_sub, exp_coe]⟩
    · exact ⟨0, le_rfl, by rw [hx]; simp [f0]⟩
  choose! y hy0 hy using hw
  refine ⟨μ, ∑ i ∈ range n, y i, ?_, hsup, hsupt, ?_, ?_⟩
  · have : y i0 = 1 := by
      have := hy i0 (mem_range.1 hi0)
      rw [hμ, ← EReal.coe_sub, sub_self, exp_coe, Real.exp_zero] at this
      exact (EReal.coe_injective this).symm
    calc (0 : ℝ) < y i0 := by rw [this]; exact one_pos
      _ ≤ ∑ i ∈ range n, y i := single_le_sum (f := y) (fun i hi => hy0 i (mem_range.1 hi)) hi0
  · intro i hi
    rcases h i hi with ⟨x, hx, hxt⟩ | ⟨hx, hxt⟩
    · rw [hx, hxt, ← EReal.coe_sub, ← EReal.coe_sub, exp2_coe, exp_coe, exp2_eq_exp]
    · rw [hx, hxt]; simp [e0, f0]
  · rw [← sum_coe]; exact sum_congr rfl fun i hi => hy i (mem_range.1 hi)

/-- The log-sum-exp of a row, from either base. -/
theorem lse {n : ℕ} {s t : ℕ → EReal} {μ lam : ℝ} (_ : Row n s t μ lam) :
    ((μ * (Real.log 2)⁻¹ : ℝ) : EReal) * ((Real.log 2 : ℝ) : EReal) + Ideal.log (lam : EReal) = (μ : EReal) + Ideal.log (lam : EReal) := by
  have : Real.log 2 ≠ 0 := (Real.log_pos one_lt_two).ne'
  rw [← EReal.coe_mul, mul_assoc, inv_mul_cancel₀ this, mul_one]

/-- `jnp.logaddexp` of two reals, as printed, is the real log-sum-exp. -/
def logaddexp (x y : EReal) : EReal :=
  Scalar.select (Ideal.cmp .one (x - y) (x - y)) (x + y) (max x y + Ideal.log1p (Ideal.exp (0 - max (x - y) (-(x - y)))))

theorem logaddexp_coe (x y : ℝ) : logaddexp (x : EReal) (y : EReal) = ((Real.log (Real.exp x + Real.exp y) : ℝ) : EReal) := by
  have hc : Ideal.cmp .one ((x : EReal) - y) ((x : EReal) - y) = 0#1 := by simp [Ideal.cmp]
  rw [logaddexp, hc, show ∀ a b : EReal, Scalar.select 0#1 a b = b from fun _ _ => rfl, ← EReal.coe_sub, ← EReal.coe_neg,
    ← coe_max, ← coe_max, ← EReal.coe_zero, ← EReal.coe_sub, exp_coe, Ideal.log1p, ← EReal.coe_one, ← EReal.coe_add,
    log_coe (by positivity), ← EReal.coe_add]
  congr 1
  rw [← Real.log_exp (max x y), ← Real.log_mul (Real.exp_pos _).ne' (by positivity), mul_add, mul_one, ← Real.exp_add]
  congr 1
  rcases le_total x y with h | h
  · rw [max_eq_right h, max_eq_right (by linarith : x - y ≤ -(x - y))]
    rw [show y + (0 - -(x - y)) = x by ring, add_comm]
  · rw [max_eq_left h, max_eq_left (by linarith : -(x - y) ≤ x - y)]
    rw [show x + (0 - (x - y)) = y by ring]

/-- THE MERGE of the two rows' outputs: the kernel's, the two accumulators rescaled to the common maximum and divided by
    the rescaled sum of the weights, is the reference's, each accumulator divided by its own sum and weighted by its
    log-sum-exp. -/
theorem merge (μ lam ν kap : ℝ) (hlam : 0 < lam) (hkap : 0 < kap) (a b : EReal) :
    let mp : EReal := ((μ * (Real.log 2)⁻¹ : ℝ) : EReal)
    let mc : EReal := ((ν * (Real.log 2)⁻¹ : ℝ) : EReal)
    let lp : EReal := (μ : EReal) + Ideal.log (lam : EReal)
    let lc : EReal := (ν : EReal) + Ideal.log (kap : EReal)
    Ideal.div (a * Ideal.exp2 (mp - max mp mc) + b * Ideal.exp2 (mc - max mp mc))
        ((lam : EReal) * Ideal.exp2 (mp - max mp mc) + (kap : EReal) * Ideal.exp2 (mc - max mp mc))
      = Ideal.exp (lp - logaddexp lp lc) * Ideal.div a (lam : EReal)
        + Ideal.exp (lc - logaddexp lp lc) * Ideal.div b (kap : EReal) := by
  intro mp mc lp lc
  have hlp : lp = ((μ + Real.log lam : ℝ) : EReal) := by rw [EReal.coe_add, ← log_coe hlam]
  have hlc : lc = ((ν + Real.log kap : ℝ) : EReal) := by rw [EReal.coe_add, ← log_coe hkap]
  have hmax : max mp mc = ((max μ ν * (Real.log 2)⁻¹ : ℝ) : EReal) := by
    rw [← coe_max, max_mul_of_nonneg _ _ (inv_pos.2 (Real.log_pos one_lt_two)).le]
  rw [hmax, hlp, hlc, logaddexp_coe]
  simp only [mp, mc, ← EReal.coe_sub, exp2_coe, exp_coe, exp2_eq_exp, ← EReal.coe_mul, ← EReal.coe_add]
  set N := max μ ν
  have hD : 0 < lam * Real.exp (μ - N) + kap * Real.exp (ν - N) := by positivity
  rw [Ideal.div_coe hD.ne', Ideal.div_coe hlam.ne', Ideal.div_coe hkap.ne',
    EReal.right_distrib_of_nonneg_of_ne_top (EReal.coe_nonneg.2 (by positivity)) (EReal.coe_ne_top _),
    mul_assoc, mul_assoc, ← EReal.coe_mul, ← EReal.coe_mul, mul_left_comm, ← EReal.coe_mul, mul_left_comm _ b, ← EReal.coe_mul]
  have hE : Real.exp (μ + Real.log lam) + Real.exp (ν + Real.log kap)
      = (lam * Real.exp (μ - N) + kap * Real.exp (ν - N)) * Real.exp N := by
    rw [Real.exp_add, Real.exp_add, Real.exp_log hlam, Real.exp_log hkap, Real.exp_sub, Real.exp_sub]
    have := (Real.exp_pos N).ne'
    field_simp
  have hN := (Real.exp_pos N).ne'
  have hlog : Real.exp (Real.log (Real.exp (μ + Real.log lam) + Real.exp (ν + Real.log kap)))
      = (lam * Real.exp (μ - N) + kap * Real.exp (ν - N)) * Real.exp N := by
    rw [Real.exp_log (by positivity), hE]
  have hp : ∀ r l : ℝ, 0 < l → Real.exp (r - N) * (1 / (lam * Real.exp (μ - N) + kap * Real.exp (ν - N)))
      = Real.exp (r + Real.log l - Real.log (Real.exp (μ + Real.log lam) + Real.exp (ν + Real.log kap))) * (1 / l) := by
    intro r l hl
    rw [Real.exp_sub (r + Real.log l), hlog, Real.exp_add, Real.exp_log hl, Real.exp_sub r]
    set E := lam * Real.exp (μ - N) + kap * Real.exp (ν - N)
    have hE' : E ≠ 0 := hD.ne'
    field_simp
  rw [hp μ lam hlam, hp ν kap hkap]

end Cert.Att

end
-- ==== Proof.Att.Spec.lean ====
/- One query's attention, as the kernel computes it (base 2, one division) and as the reference does (base e, a softmax per
   part and a merge by log-sum-exps), in closed form over the query's own data; and that the two are equal where the
   scores are real. -/
module

public import proofs.«01_k».proof.Proof.Att.Softmax

@[expose] public section

noncomputable section

namespace Cert.Att

open Idealize.ShloMosaic Finset

/-- What one query reads of one part (prompt or completion): its own code values and scale, and for every key its code
    values, scale, value's code values and value's scale. -/
structure Col where
  q : Fin 64 → EReal
  qs : EReal
  k : ℕ → Fin 64 → EReal
  ks : ℕ → EReal
  v : ℕ → Fin 64 → EReal
  vs : ℕ → EReal

/-- The kernel's score of key `i`, in base 2. -/
def Col.t (c : Col) (i : ℕ) : EReal := (∑ d, c.k i d * c.q d) * c.ks i * (c.qs * (((8 : ℝ)⁻¹ * (Real.log 2)⁻¹ : ℝ) : EReal))
/-- The reference's score of key `i`. -/
def Col.s (c : Col) (i : ℕ) : EReal := (∑ d, c.q d * c.k i d) * c.qs * c.ks i * (((8 : ℝ)⁻¹ : ℝ) : EReal)
/-- A lane of the values, times their scales. -/
def Col.w (c : Col) (d : Fin 64) (i : ℕ) : EReal := c.v i d * c.vs i
/-- Scores with the keys after position `pos` masked. -/
def masked (pos : ℕ) (f : ℕ → EReal) (i : ℕ) : EReal := if i ≤ pos then f i else ⊥

/-- The codes and scales of the query and of the first `n` keys are real. -/
structure Col.Finite (c : Col) (n : ℕ) : Prop where
  q : ∀ d, ∃ r : ℝ, c.q d = (r : EReal)
  qs : ∃ r : ℝ, c.qs = (r : EReal)
  k : ∀ i < n, ∀ d, ∃ r : ℝ, c.k i d = (r : EReal)
  ks : ∀ i < n, ∃ r : ℝ, c.ks i = (r : EReal)

/-- Then the two scores are the same real, in its two bases. -/
theorem Col.Finite.scaled {c : Col} {n : ℕ} (h : c.Finite n) (i : ℕ) (hi : i < n) :
    ∃ x : ℝ, c.s i = (x : EReal) ∧ c.t i = ((x * (Real.log 2)⁻¹ : ℝ) : EReal) := by
  choose q hq using h.q
  obtain ⟨qs, hqs⟩ := h.qs
  choose k hk using h.k i hi
  obtain ⟨ks, hks⟩ := h.ks i hi
  refine ⟨(∑ d, q d * k d) * qs * ks * (8 : ℝ)⁻¹, ?_, ?_⟩
  · simp only [Col.s, hq, hqs, hk, hks, ← EReal.coe_mul, sum_coe]
  · simp only [Col.t, hq, hqs, hk, hks, ← EReal.coe_mul, sum_coe]
    congr 1
    rw [sum_congr rfl fun d _ => mul_comm (k d) (q d)]
    ring

theorem Col.Finite.row {c : Col} {n : ℕ} (h : c.Finite n) (i : ℕ) (hi : i < n) : Scaled (c.s i) (c.t i) := .inl (h.scaled i hi)

theorem Col.Finite.row_masked {c : Col} {n : ℕ} (h : c.Finite n) (pos i : ℕ) (hi : i < n) : Scaled (masked pos c.s i) (masked pos c.t i) := by
  unfold masked
  split
  · exact h.row i hi
  · exact .inr ⟨rfl, rfl⟩

theorem Scaled.ne_top {s t : EReal} (h : Scaled s t) : t ≠ ⊤ := by
  rcases h with ⟨x, -, hx⟩ | ⟨-, hx⟩ <;> rw [hx]
  · exact EReal.coe_ne_top _
  · exact bot_ne_top

/-! ## The kernel's closed form -/

def sumExp2 (t : ℕ → EReal) (n : ℕ) : EReal := ∑ i ∈ range n, Ideal.exp2 (t i - (range n).sup t)
def accExp2 (t w : ℕ → EReal) (n : ℕ) : EReal := ∑ i ∈ range n, w i * Ideal.exp2 (t i - (range n).sup t)
def lse2 (t : ℕ → EReal) (n : ℕ) : EReal := (range n).sup t * ((Real.log 2 : ℝ) : EReal) + Ideal.log (sumExp2 t n)

/-- The two parts merged: `mp lp ap` the prompt's maximum, sum and accumulator, `mc lc ac` the completion's. -/
def merge2 (mp lp ap mc lc ac : EReal) : EReal :=
  Ideal.div (ap * Ideal.exp2 (mp - max mp mc) + ac * Ideal.exp2 (mc - max mp mc)) (lp * Ideal.exp2 (mp - max mp mc) + lc * Ideal.exp2 (mc - max mp mc))

def out2 (tp wp : ℕ → EReal) (np : ℕ) (tc wc : ℕ → EReal) (nc : ℕ) : EReal :=
  merge2 ((range np).sup tp) (sumExp2 tp np) (accExp2 tp wp np) ((range nc).sup tc) (sumExp2 tc nc) (accExp2 tc wc nc)

/-! ## The reference's closed form -/

def sumExp (s : ℕ → EReal) (n : ℕ) : EReal := ∑ i ∈ range n, Ideal.exp (s i - (range n).sup s)
def softmax (s vs v : ℕ → EReal) (n : ℕ) : EReal :=
  Ideal.div (∑ i ∈ range n, Ideal.exp (s i - (range n).sup s) * vs i * v i) (sumExp s n)
def lseE (s : ℕ → EReal) (n : ℕ) : EReal := (range n).sup s + Ideal.log (sumExp s n)

/-- Two parts' outputs `op`, `oc` merged by their log-sum-exps `ep`, `ec`. -/
def mergeE (op ep oc ec : EReal) : EReal := Ideal.exp (ep - logaddexp ep ec) * op + Ideal.exp (ec - logaddexp ep ec) * oc

def outE (sp vsp vp : ℕ → EReal) (np : ℕ) (sc vsc vc : ℕ → EReal) (nc : ℕ) : EReal :=
  mergeE (softmax sp vsp vp np) (lseE sp np) (softmax sc vsc vc nc) (lseE sc nc)

/-! ## They are equal -/

section

variable {n : ℕ} {s t : ℕ → EReal} {μ lam : ℝ}

theorem Row.sumExp2_eq (h : Row n s t μ lam) : sumExp2 t n = (lam : EReal) := by rw [sumExp2, h.max_t, h.sum_t]
theorem Row.sumExp_eq (h : Row n s t μ lam) : sumExp s n = (lam : EReal) := by rw [sumExp, h.max_s, h.sum_s]
theorem Row.lse_eq (h : Row n s t μ lam) : lse2 t n = lseE s n := by
  rw [lse2, lseE, h.sumExp2_eq, h.sumExp_eq, h.max_t, h.max_s]; exact lse h
theorem Row.acc_eq (h : Row n s t μ lam) (w vs v : ℕ → EReal) (hw : ∀ i < n, w i = v i * vs i) :
    softmax s vs v n = Ideal.div (accExp2 t w n) (lam : EReal) := by
  rw [softmax, h.sumExp_eq, accExp2, h.max_t, h.max_s]
  congr 1
  refine sum_congr rfl fun i hi => ?_
  rw [hw i (mem_range.1 hi), h.weight i (mem_range.1 hi), mul_assoc, mul_comm (vs i), mul_comm]

end

/-- The log-sum-exps agree on every row with a visible key. -/
theorem lse_eq {n : ℕ} {s t : ℕ → EReal} (h : ∀ i < n, Scaled (s i) (t i)) (hv : ∃ i < n, s i ≠ ⊥) : lse2 t n = lseE s n := by
  obtain ⟨μ, lam, hr⟩ := exists_row h hv
  exact hr.lse_eq

/-- The merged outputs agree. -/
theorem out_eq {np nc : ℕ} {sp tp sc tc : ℕ → EReal} (hp : ∀ i < np, Scaled (sp i) (tp i)) (hpv : ∃ i < np, sp i ≠ ⊥)
    (hc : ∀ i < nc, Scaled (sc i) (tc i)) (hcv : ∃ i < nc, sc i ≠ ⊥) (wp vsp vp wc vsc vc : ℕ → EReal)
    (hwp : ∀ i < np, wp i = vp i * vsp i) (hwc : ∀ i < nc, wc i = vc i * vsc i) :
    out2 tp wp np tc wc nc = outE sp vsp vp np sc vsc vc nc := by
  obtain ⟨μ, lam, hr⟩ := exists_row hp hpv
  obtain ⟨ν, kap, hr'⟩ := exists_row hc hcv
  rw [out2, outE, merge2, mergeE, hr.acc_eq wp vsp vp hwp, hr'.acc_eq wc vsc vc hwc, lseE, lseE, hr.sumExp_eq, hr'.sumExp_eq,
    hr.sumExp2_eq, hr'.sumExp2_eq, hr.max_t, hr'.max_t, hr.max_s, hr'.max_s]
  exact merge μ lam ν kap hr.pos hr'.pos _ _

end Cert.Att

end
-- ==== Proof.Att.Args.lean ====
/- The arguments, and the two columns every query reads off them: the same for the kernel and for the reference. -/
module

public import proofs.«01_k».proof.Proof.Att.Spec
public import Idealize.ShloMosaic.Lib.Pointwise

@[expose] public section

noncomputable section

namespace Cert.Att

open Idealize.ShloMosaic

/-- The argument arrays: codes of the queries, prompt keys and completion keys as bytes, those of the values as floats. -/
structure Args where
  q : IVec ⟨4, ![4, 512, 32, 64]⟩ 8
  qs : FVec Ideal ⟨3, ![4, 512, 32]⟩ .f32
  pk : IVec ⟨3, ![3072, 2, 64]⟩ 8
  pv : FVec Ideal ⟨3, ![3072, 2, 64]⟩ .fp8e4m3
  pks : FVec Ideal ⟨2, ![3072, 2]⟩ .f32
  pvs : FVec Ideal ⟨2, ![3072, 2]⟩ .f32
  k : IVec ⟨4, ![4, 512, 2, 64]⟩ 8
  v : FVec Ideal ⟨4, ![4, 512, 2, 64]⟩ .fp8e4m3
  ks : FVec Ideal ⟨3, ![4, 512, 2]⟩ .f32
  vs : FVec Ideal ⟨3, ![4, 512, 2]⟩ .f32

/-- A code byte's value. -/
def code (b : BitVec 8) : EReal := Ideal.ofBits .fp8e4m3 b

/-- A row's sequence. -/
def batch (r : Fin 2048) : Fin 4 := ⟨r.val / 512, by omega⟩
/-- A row's position in its sequence. -/
def pos (r : Fin 2048) : Fin 512 := ⟨r.val % 512, by omega⟩
/-- A head's key head. -/
def kvOf (n : Fin 32) : Fin 2 := ⟨n.val / 16, by omega⟩

/-- Row `r` of head `n` over the prompt. -/
def colP (A : Args) (n : Fin 32) (r : Fin 2048) : Col where
  q d := code (A.q (ix4 (batch r) (pos r) n d))
  qs := A.qs (ix3 (batch r) (pos r) n)
  k i d := code (A.pk (ix3 (Fin.ofNat 3072 i) (kvOf n) d))
  ks i := A.pks (ix2 (Fin.ofNat 3072 i) (kvOf n))
  v i d := A.pv (ix3 (Fin.ofNat 3072 i) (kvOf n) d)
  vs i := A.pvs (ix2 (Fin.ofNat 3072 i) (kvOf n))

/-- Row `r` of head `n` over its sequence's completion. -/
def colC (A : Args) (n : Fin 32) (r : Fin 2048) : Col where
  q d := code (A.q (ix4 (batch r) (pos r) n d))
  qs := A.qs (ix3 (batch r) (pos r) n)
  k i d := code (A.k (ix4 (batch r) (Fin.ofNat 512 i) (kvOf n) d))
  ks i := A.ks (ix3 (batch r) (Fin.ofNat 512 i) (kvOf n))
  v i d := A.v (ix4 (batch r) (Fin.ofNat 512 i) (kvOf n) d)
  vs i := A.vs (ix3 (batch r) (Fin.ofNat 512 i) (kvOf n))

/-- The output at row `r`, head `n` and lane `d`. -/
def outAt (A : Args) (n : Fin 32) (r : Fin 2048) (d : Fin 64) : EReal :=
  outE (colP A n r).s (colP A n r).vs (fun i => (colP A n r).v i d) 3072
    (masked (r.val % 512) (colC A n r).s) (colC A n r).vs (fun i => (colC A n r).v i d) 512
/-- The prompt's log-sum-exp less the log of its length, the constant as the programs write it. -/
def lsePAt (A : Args) (n : Fin 32) (r : Fin 2048) : EReal := lseE (colP A n r).s 3072 - Ideal.ofBits .f32 0x41007B39#32
/-- The completion's log-sum-exp less the log of the number of visible keys. -/
def lseCAt (A : Args) (n : Fin 32) (r : Fin 2048) : EReal :=
  lseE (masked (r.val % 512) (colC A n r).s) 512 - Ideal.log (((r.val % 512 + 1 : ℕ) : ℝ) : EReal)

/-- The same in the kernel's form. -/
def outAt2 (A : Args) (n : Fin 32) (r : Fin 2048) (d : Fin 64) : EReal :=
  out2 (colP A n r).t ((colP A n r).w d) 3072 (masked (r.val % 512) (colC A n r).t) ((colC A n r).w d) 512
def lsePAt2 (A : Args) (n : Fin 32) (r : Fin 2048) : EReal := lse2 (colP A n r).t 3072 - Ideal.ofBits .f32 0x41007B39#32
def lseCAt2 (A : Args) (n : Fin 32) (r : Fin 2048) : EReal :=
  lse2 (masked (r.val % 512) (colC A n r).t) 512 - Ideal.log (((r.val % 512 + 1 : ℕ) : ℝ) : EReal)

/-- Every score's ingredients are real. -/
structure Args.Finite (A : Args) : Prop where
  q : ∀ i, ∃ r : ℝ, code (A.q i) = (r : EReal)
  qs : ∀ i, ∃ r : ℝ, A.qs i = (r : EReal)
  pk : ∀ i, ∃ r : ℝ, code (A.pk i) = (r : EReal)
  pks : ∀ i, ∃ r : ℝ, A.pks i = (r : EReal)
  k : ∀ i, ∃ r : ℝ, code (A.k i) = (r : EReal)
  ks : ∀ i, ∃ r : ℝ, A.ks i = (r : EReal)

section

variable {A : Args} (h : A.Finite) (n : Fin 32) (r : Fin 2048)
include h

theorem Args.Finite.colP : (colP A n r).Finite 3072 :=
  ⟨fun _ => h.q _, h.qs _, fun _ _ _ => h.pk _, fun _ _ => h.pks _⟩
theorem Args.Finite.colC : (colC A n r).Finite 512 :=
  ⟨fun _ => h.q _, h.qs _, fun _ _ _ => h.k _, fun _ _ => h.ks _⟩

theorem Args.Finite.visP : ∃ i < 3072, (Att.colP A n r).s i ≠ ⊥ := by
  obtain ⟨x, hx, -⟩ := (h.colP n r).scaled 0 (by omega)
  exact ⟨0, by omega, hx ▸ EReal.coe_ne_bot x⟩
theorem Args.Finite.visC : ∃ i < 512, masked (r.val % 512) (Att.colC A n r).s i ≠ ⊥ := by
  obtain ⟨x, hx, -⟩ := (h.colC n r).scaled 0 (by omega)
  refine ⟨0, by omega, ?_⟩
  rw [masked, if_pos (Nat.zero_le _), hx]
  exact EReal.coe_ne_bot x

theorem Args.Finite.ne_topP (i : ℕ) (hi : i < 3072) : (Att.colP A n r).t i ≠ ⊤ := ((h.colP n r).row i hi).ne_top
theorem Args.Finite.ne_topC (p i : ℕ) (hi : i < 512) : masked p (Att.colC A n r).t i ≠ ⊤ := ((h.colC n r).row_masked p i hi).ne_top

/-- The two forms agree. -/
theorem Args.Finite.out_eq (d : Fin 64) : outAt2 A n r d = outAt A n r d :=
  Att.out_eq (fun i hi => (h.colP n r).row i hi) (h.visP n r) (fun i hi => (h.colC n r).row_masked _ i hi) (h.visC n r) _ _ _ _ _ _
    (fun _ _ => rfl) (fun _ _ => rfl)
theorem Args.Finite.lseP_eq : lsePAt2 A n r = lsePAt A n r := by
  rw [lsePAt2, lsePAt, lse_eq (fun i hi => (h.colP n r).row i hi) (h.visP n r)]
theorem Args.Finite.lseC_eq : lseCAt2 A n r = lseCAt A n r := by
  rw [lseCAt2, lseCAt, lse_eq (fun i hi => (h.colC n r).row_masked _ i hi) (h.visC n r)]

end

/-! ## The precondition's tests -/

theorem not_nan : ∀ b : BitVec 8, b ≠ 0x7F#8 → b ≠ 0xFF#8 → ¬((b.extractLsb' 3 4).toNat = 15 ∧ (b.extractLsb' 0 3).toNat = 7) := by decide +kernel

/-- A byte that is neither of the two NaN codes has a real value. -/
theorem code_real {b : BitVec 8} (h1 : b ≠ 0x7F#8) (h2 : b ≠ 0xFF#8) : ∃ r : ℝ, code b = (r : EReal) := by
  show ∃ r : ℝ, Ideal.e4m3fn b = (r : EReal)
  unfold Ideal.e4m3fn
  dsimp only
  rw [if_neg (not_nan b h1 h2)]
  split
  · exact ⟨_, rfl⟩
  · exact ⟨_, rfl⟩

/-- A float whose absolute value is below infinity is real. -/
theorem real_of_abs_lt {x : EReal} (h : max x (-x) < ⊤) : ∃ r : ℝ, x = (r : EReal) := by
  induction x with
  | bot => simp at h
  | top => simp at h
  | coe r => exact ⟨r, rfl⟩

end Cert.Att

end
-- ==== Proof.Att.KerArgs.lean ====
/- The arrays the kernel's windows read, in terms of the arguments: every host operation before the call is a byte's reading
   as a float, a transpose or a reshape. -/
module

public import proofs.«01_k».proof.Proof.Att.Args
public import proofs.«01_k».proof.Proof.Gen.KernelIdeal.Frame

@[expose] public section

set_option maxRecDepth 16384

noncomputable section

namespace Cert.Att

open Cert.KernelIdeal Cert.KernelIdeal.Gen Idealize.ShloMosaic Idealize.ShloMosaic.TcCoe

variable (m : (ℓ : Loc nD τ sig) → Buf (Elt Ideal) ℓ) (c : Dev nD)

/-- The kernel's arguments. -/
def argsK : Args :=
  ⟨m (c, main_arg0), m (c, main_arg1), m (c, main_arg2), m (c, main_arg3), m (c, main_arg4), m (c, main_arg5), m (c, main_arg6), m (c, main_arg7),
    m (c, main_arg8), m (c, main_arg9)⟩

section Reads

variable (q : IVec S4x512x32x64 8) (qs : FVec Ideal S4x512x32 .f32) (pk : IVec S3072x2x64 8) (pv : FVec Ideal S3072x2x64 .fp8e4m3) (ps : FVec Ideal S3072x2 .f32)
  (k : IVec S4x512x2x64 8) (v : FVec Ideal S4x512x2x64 .fp8e4m3) (s : FVec Ideal S4x512x2 .f32)

theorem read3 (r cc : Fin 2048) :
    shapeCast S2048x2048 (bitcastToFloat .fp8e4m3 q : FVec Ideal S4x512x32x64 .fp8e4m3) shapeCasts_S4x512x32x64_S2048x2048 (ix2 r cc)
      = code (q (ix4 (batch r) (pos r) ⟨cc.val / 64, by omega⟩ ⟨cc.val % 64, by omega⟩)) := by
  pointwise [batch, pos]
  rfl

theorem read5 (a : Fin 8) (g : Fin 4) (r : Fin 2048) :
    transpose S8x4x2048 [1, 2, 0] (shapeCast S2048x8x4 qs shapeCasts_S4x512x32_S2048x8x4) transposes_S2048x8x4_S8x4x2048_1_2_0 (ix3 a g r)
      = qs (ix3 (batch r) (pos r) ⟨a.val * 4 + g.val, by omega⟩) := by
  pointwise [batch, pos]

theorem read6 (a : Fin 2) (i : Fin 3072) (d : Fin 64) :
    transpose S2x3072x64 [1, 0, 2] (bitcastToFloat .fp8e4m3 pk : FVec Ideal S3072x2x64 .fp8e4m3) transposes_S3072x2x64_S2x3072x64_1_0_2 (ix3 a i d) = code (pk (ix3 i a d)) := by
  pointwise
  rfl

theorem read7 (a : Fin 2) (d : Fin 64) (i : Fin 3072) : transpose S2x64x3072 [1, 2, 0] pv transposes_S3072x2x64_S2x64x3072_1_2_0 (ix3 a d i) = pv (ix3 i a d) := by
  pointwise

theorem read9 (a : Fin 2) (i : Fin 3072) :
    broadcastInDim S2x1x3072 ![0, 2] bcast_S2x3072_S2x1x3072_0_2 (transpose S2x3072 [1, 0] ps transposes_S3072x2_S2x3072_1_0) (ix3 a 0 i) = ps (ix2 i a) := by
  pointwise

theorem read11 (a : Fin 2) (i : Fin 3072) :
    broadcastInDim S2x3072x1 ![0, 1] bcast_S2x3072_S2x3072x1_0_1 (transpose S2x3072 [1, 0] ps transposes_S3072x2_S2x3072_1_0) (ix3 a i 0) = ps (ix2 i a) := by
  pointwise

theorem read13 (a : Fin 8) (i : Fin 512) (d : Fin 64) :
    shapeCast S8x512x64 (transpose S2x4x512x64 [2, 0, 1, 3] (bitcastToFloat .fp8e4m3 k : FVec Ideal S4x512x2x64 .fp8e4m3) transposes_S4x512x2x64_S2x4x512x64_2_0_1_3)
        shapeCasts_S2x4x512x64_S8x512x64 (ix3 a i d)
      = code (k (ix4 ⟨a.val % 4, by omega⟩ i ⟨a.val / 4, by omega⟩ d)) := by
  pointwise
  rfl

theorem read15 (a : Fin 8) (d : Fin 64) (i : Fin 512) :
    shapeCast S8x64x512 (transpose S2x4x64x512 [2, 0, 3, 1] v transposes_S4x512x2x64_S2x4x64x512_2_0_3_1) shapeCasts_S2x4x64x512_S8x64x512 (ix3 a d i)
      = v (ix4 ⟨a.val % 4, by omega⟩ i ⟨a.val / 4, by omega⟩ d) := by
  pointwise

theorem read18 (a : Fin 8) (i : Fin 512) :
    broadcastInDim S8x1x512 ![0, 2] bcast_S8x512_S8x1x512_0_2 (shapeCast S8x512 (transpose S2x4x512 [2, 0, 1] s transposes_S4x512x2_S2x4x512_2_0_1) shapeCasts_S2x4x512_S8x512) (ix3 a 0 i)
      = s (ix3 ⟨a.val % 4, by omega⟩ i ⟨a.val / 4, by omega⟩) := by
  pointwise

theorem read21 (a : Fin 8) (i : Fin 512) :
    broadcastInDim S8x512x1 ![0, 1] bcast_S8x512_S8x512x1_0_1 (shapeCast S8x512 (transpose S2x4x512 [2, 0, 1] s transposes_S4x512x2_S2x4x512_2_0_1) shapeCasts_S2x4x512_S8x512) (ix3 a i 0)
      = s (ix3 ⟨a.val % 4, by omega⟩ i ⟨a.val / 4, by omega⟩) := by
  pointwise

end Reads

theorem V3 (r cc : Fin 2048) : V m c main_v3 (ix2 r cc) = code ((argsK m c).q (ix4 (batch r) (pos r) ⟨cc.val / 64, by omega⟩ ⟨cc.val % 64, by omega⟩)) := by
  rw [← read3]
  refine congrFun (?_ : StableHlo.after (hostOps0 (F := Ideal)) (fun b => m (c, b)) (Proc.devRef .tc main_v3) = _) _
  after_results
  rfl

theorem V5 (a : Fin 8) (g : Fin 4) (r : Fin 2048) : V m c main_v5 (ix3 a g r) = (argsK m c).qs (ix3 (batch r) (pos r) ⟨a.val * 4 + g.val, by omega⟩) := by
  rw [← read5 (argsK m c).qs]
  refine congrFun (?_ : StableHlo.after (hostOps0 (F := Ideal)) (fun b => m (c, b)) (Proc.devRef .tc main_v5) = _) _
  after_results
  rfl

theorem V6 (a : Fin 2) (i : Fin 3072) (d : Fin 64) : V m c main_v6 (ix3 a i d) = code ((argsK m c).pk (ix3 i a d)) := by
  rw [← read6]
  refine congrFun (?_ : StableHlo.after (hostOps0 (F := Ideal)) (fun b => m (c, b)) (Proc.devRef .tc main_v6) = _) _
  after_results
  rfl

theorem V7 (a : Fin 2) (d : Fin 64) (i : Fin 3072) : V m c main_v7 (ix3 a d i) = (argsK m c).pv (ix3 i a d) := by
  rw [← read7 (argsK m c).pv]
  refine congrFun (?_ : StableHlo.after (hostOps0 (F := Ideal)) (fun b => m (c, b)) (Proc.devRef .tc main_v7) = _) _
  after_results
  rfl

theorem V9 (a : Fin 2) (i : Fin 3072) : V m c main_v9 (ix3 a 0 i) = (argsK m c).pvs (ix2 i a) := by
  rw [← read9 (argsK m c).pvs]
  refine congrFun (?_ : StableHlo.after (hostOps0 (F := Ideal)) (fun b => m (c, b)) (Proc.devRef .tc main_v9) = _) _
  after_results
  rfl

theorem V11 (a : Fin 2) (i : Fin 3072) : V m c main_v11 (ix3 a i 0) = (argsK m c).pks (ix2 i a) := by
  rw [← read11 (argsK m c).pks]
  refine congrFun (?_ : StableHlo.after (hostOps0 (F := Ideal)) (fun b => m (c, b)) (Proc.devRef .tc main_v11) = _) _
  after_results
  rfl

theorem V13 (a : Fin 8) (i : Fin 512) (d : Fin 64) : V m c main_v13 (ix3 a i d) = code ((argsK m c).k (ix4 ⟨a.val % 4, by omega⟩ i ⟨a.val / 4, by omega⟩ d)) := by
  rw [← read13]
  refine congrFun (?_ : StableHlo.after (hostOps0 (F := Ideal)) (fun b => m (c, b)) (Proc.devRef .tc main_v13) = _) _
  after_results
  rfl

theorem V15 (a : Fin 8) (d : Fin 64) (i : Fin 512) : V m c main_v15 (ix3 a d i) = (argsK m c).v (ix4 ⟨a.val % 4, by omega⟩ i ⟨a.val / 4, by omega⟩ d) := by
  rw [← read15 (argsK m c).v]
  refine congrFun (?_ : StableHlo.after (hostOps0 (F := Ideal)) (fun b => m (c, b)) (Proc.devRef .tc main_v15) = _) _
  after_results
  rfl

theorem V18 (a : Fin 8) (i : Fin 512) : V m c main_v18 (ix3 a 0 i) = (argsK m c).vs (ix3 ⟨a.val % 4, by omega⟩ i ⟨a.val / 4, by omega⟩) := by
  rw [← read18 (argsK m c).vs]
  refine congrFun (?_ : StableHlo.after (hostOps0 (F := Ideal)) (fun b => m (c, b)) (Proc.devRef .tc main_v18) = _) _
  after_results
  rfl

theorem V21 (a : Fin 8) (i : Fin 512) : V m c main_v21 (ix3 a i 0) = (argsK m c).ks (ix3 ⟨a.val % 4, by omega⟩ i ⟨a.val / 4, by omega⟩) := by
  rw [← read21 (argsK m c).ks]
  refine congrFun (?_ : StableHlo.after (hostOps0 (F := Ideal)) (fun b => m (c, b)) (Proc.devRef .tc main_v21) = _) _
  after_results
  rfl

end Cert.Att

end
-- ==== Proof.Att.Model.lean ====
/- The kernel's body as it is written: one head's attention over a list of key chunks, streamed with a running maximum, a
   weight sum and an accumulator, then the merge of the prompt's and the completion's states. The generated payloads are
   these by unfolding (`out10_eq`, `out11_eq`, `out12_eq`), so that everything further is said once, for one head and one
   chunk. -/
module

public import proofs.«01_k».proof.Proof.Gen.KernelIdeal.Frame

@[expose] public section

noncomputable section

namespace Cert.Att

open Cert.KernelIdeal Cert.KernelIdeal.Gen Idealize.ShloMosaic

variable {F : FTy → Type} [FloatOps F] [Named F]

/-- The tile's first position in its sequence, as the body computes it from the grid's second coordinate. -/
def tileStart (w : BitVec 32) : BitVec 32 :=
  Scalar.muli (Scalar.select (Scalar.andi (Scalar.xori (Scalar.cmpi .slt (Scalar.remsi w (Scalar.select (Scalar.cmpi .eq 2#32 0#32) 1#32 2#32)) 0#32) (Scalar.cmpi .slt (Scalar.select (Scalar.cmpi .eq 2#32 0#32) 1#32 2#32) 0#32)) (Scalar.cmpi .ne (Scalar.remsi w (Scalar.select (Scalar.cmpi .eq 2#32 0#32) 1#32 2#32)) 0#32)) (Scalar.addi (Scalar.remsi w (Scalar.select (Scalar.cmpi .eq 2#32 0#32) 1#32 2#32)) (Scalar.select (Scalar.cmpi .eq 2#32 0#32) 1#32 2#32)) (Scalar.remsi w (Scalar.select (Scalar.cmpi .eq 2#32 0#32) 1#32 2#32))) 256#32

/-- A head's queries. -/
def queries (x : Vec F S256x64 .fp8e4m3) : FVec F S256x64 .fp8e4m3 := shapeCast S256x64 x shapeCasts_S256x64_S256x64

/-- A head's query scales, times the softmax scale in base 2. -/
def queryScales (x : Vec F S1x1x256 .f32) : FVec F S1x256 .f32 :=
  mulf (shapeCast S1x256 x shapeCasts_S1x1x256_S1x256) (broadcast S1x256 (Named.named κ "scale_log2e" 0x3E38AA3B#32 : F .f32))

/-- The scores of one chunk of keys, a row per key and a column per query. -/
def score (q : FVec F S256x64 .fp8e4m3) (qs : FVec F S1x256 .f32) (k : Vec F S1x512x64 .fp8e4m3) (ks : Vec F S1x512x1 .f32) : FVec F S512x256 .f32 :=
  mulf (mulf (matmul dot_S512x64_S256x64_S512x256_1_1_0_0_n_n none (shapeCast S512x64 k shapeCasts_S1x512x64_S512x64) q (constant S512x256 .f32 0x00000000#32))
    (broadcastTo S512x256 (shapeCast S512x1 ks shapeCasts_S1x512x1_S512x1) broadcasts_S512x1_S512x256)) (broadcastTo S512x256 qs broadcasts_S1x256_S512x256)

/-- The scores with the keys after the query's position masked. -/
def causal (t0 : BitVec 32) (t : FVec F S512x256 .f32) : FVec F S512x256 .f32 :=
  select (cmpi .sle (addi (iota .tc S512x256 32 [0] iota_S512x256_d0_w32) (broadcast S512x256 0#32)) (addi (iota .tc S512x256 32 [1] iota_S512x256_d1_w32) (broadcast S512x256 t0)))
    t (broadcast S512x256 (Named.named κ "mask" 0xF149F2CA#32 : F .f32))

def max0 : FVec F S1x256 .f32 := broadcast S1x256 (Named.named κ "mask" 0xF149F2CA#32 : F .f32)
def sum0 : FVec F S1x256 .f32 := broadcast S1x256 (Scalar.ofBits .f32 0x00000000#32 : F .f32)
def acc0 : FVec F S64x256 .f32 := broadcast S64x256 (Scalar.ofBits .f32 0x00000000#32 : F .f32)

/-- The running maximum after a chunk of scores `t`. -/
def stepMax (m : FVec F S1x256 .f32) (t : FVec F S512x256 .f32) : FVec F S1x256 .f32 :=
  maximumf m (shapeCast S1x256 (multiReduction .maximumf [0] S256 t 0xFF800000#32 reduces_S512x256_S256 (.inl rfl) rfl) shapeCasts_S256_S1x256)

/-- The factor that rescales the old sums. -/
def rescale (m : FVec F S1x256 .f32) (t : FVec F S512x256 .f32) : FVec F S1x256 .f32 := exp2 (subf m (stepMax m t))

/-- The chunk's weights under the new maximum. -/
def weights (m : FVec F S1x256 .f32) (t : FVec F S512x256 .f32) : FVec F S512x256 .f32 :=
  exp2 (subf t (broadcastTo S512x256 (stepMax m t) broadcasts_S1x256_S512x256))

/-- The sum of the weights after the chunk. -/
def stepSum (m l : FVec F S1x256 .f32) (t : FVec F S512x256 .f32) : FVec F S1x256 .f32 :=
  addf (mulf l (rescale m t)) (shapeCast S1x256 (multiReduction .add [0] S256 (weights m t) 0x00000000#32 reduces_S512x256_S256 (.inl rfl) rfl) shapeCasts_S256_S1x256)

/-- The accumulator after the chunk. -/
def stepAcc (m : FVec F S1x256 .f32) (a : FVec F S64x256 .f32) (t : FVec F S512x256 .f32) (v : Vec F S1x64x512 .fp8e4m3) (vs : Vec F S1x1x512 .f32) : FVec F S64x256 .f32 :=
  addf (mulf a (broadcastTo S64x256 (rescale m t) broadcasts_S1x256_S64x256))
    (matmul dot_S64x512_S512x256_S64x256_1_0_0_1_n_n none
      (mulf (extf .bf16 (shapeCast S64x512 v shapeCasts_S1x64x512_S64x512) bitsLt_fp8e4m3_bf16)
        (broadcastTo S64x512 (truncf .bf16 (shapeCast S1x512 vs shapeCasts_S1x1x512_S1x512) bitsLt_bf16_f32) broadcasts_S1x512_S64x512))
      (truncf .bf16 (weights m t) bitsLt_bf16_f32) (constant S64x256 .f32 0x00000000#32))

/-- The states after `n` chunks of scores `t 0, t 1, …`. -/
def runMax (t : ℕ → FVec F S512x256 .f32) : ℕ → FVec F S1x256 .f32
  | 0 => max0
  | n + 1 => stepMax (runMax t n) (t n)
def runSum (t : ℕ → FVec F S512x256 .f32) : ℕ → FVec F S1x256 .f32
  | 0 => sum0
  | n + 1 => stepSum (runMax t n) (runSum t n) (t n)
def runAcc (t : ℕ → FVec F S512x256 .f32) (v : ℕ → Vec F S1x64x512 .fp8e4m3) (vs : ℕ → Vec F S1x1x512 .f32) : ℕ → FVec F S64x256 .f32
  | 0 => acc0
  | n + 1 => stepAcc (runMax t n) (runAcc t v vs n) (t n) (v n) (vs n)

/-- The factor that brings a part's sums to the common maximum. -/
def mergeFactor (m m' : FVec F S1x256 .f32) : FVec F S1x256 .f32 := exp2 (subf m m')

/-- The merged output of a head, a row per lane and a column per query. -/
def mergeOut (mp lp : FVec F S1x256 .f32) (ap : FVec F S64x256 .f32) (mc lc : FVec F S1x256 .f32) (ac : FVec F S64x256 .f32) : FVec F S64x256 .f32 :=
  divf (addf (mulf ap (broadcastTo S64x256 (mergeFactor mp (maximumf mp mc)) broadcasts_S1x256_S64x256))
      (mulf ac (broadcastTo S64x256 (mergeFactor mc (maximumf mp mc)) broadcasts_S1x256_S64x256)))
    (broadcastTo S64x256 (addf (mulf lp (mergeFactor mp (maximumf mp mc))) (mulf lc (mergeFactor mc (maximumf mp mc)))) broadcasts_S1x256_S64x256)

/-- The prompt part's log-sum-exp, less the log of its length. -/
def promptLse (m l : FVec F S1x256 .f32) : FVec F S1x1x256 .f32 :=
  shapeCast S1x1x256 (subf (addf (mulf m (broadcast S1x256 (Named.named κ "ln2" 0x3F317218#32 : F .f32))) (log l))
    (broadcast S1x256 (Scalar.ofBits .f32 0x41007B39#32 : F .f32))) shapeCasts_S1x256_S1x1x256

/-- The completion part's log-sum-exp, less the log of the number of visible keys. -/
def completionLse (t0 : BitVec 32) (m l : FVec F S1x256 .f32) : FVec F S1x1x256 .f32 :=
  shapeCast S1x1x256 (subf (addf (mulf m (broadcast S1x256 (Named.named κ "ln2" 0x3F317218#32 : F .f32))) (log l))
    (log (sitofp .f32 (addi (iota .tc S1x256 32 [1] iota_S1x256_d1_w32) (broadcast S1x256 (Scalar.addi t0 1#32)))))) shapeCasts_S1x256_S1x1x256

/-! ## The blocks read: a head's queries, and the prompt's chunks -/

def headQ (x : Vec F S256x256 .fp8e4m3) : ℕ → Vec F S256x64 .fp8e4m3
  | 0 => View.ld x r0_0 | 1 => View.ld x r0_30 | 2 => View.ld x r0_32 | _ => View.ld x r0_34
def headQS (x : Vec F S1x4x256 .f32) : ℕ → Vec F S1x1x256 .f32
  | 0 => View.ld x r0_1 | 1 => View.ld x r0_31 | 2 => View.ld x r0_33 | _ => View.ld x r0_35
def chunkK (x : Vec F S1x3072x64 .fp8e4m3) : ℕ → Vec F S1x512x64 .fp8e4m3
  | 0 => View.ld x r0_2 | 1 => View.ld x r0_6 | 2 => View.ld x r0_10 | 3 => View.ld x r0_14 | 4 => View.ld x r0_18 | _ => View.ld x r0_22
def chunkKS (x : Vec F S1x3072x1 .f32) : ℕ → Vec F S1x512x1 .f32
  | 0 => View.ld x r0_3 | 1 => View.ld x r0_7 | 2 => View.ld x r0_11 | 3 => View.ld x r0_15 | 4 => View.ld x r0_19 | _ => View.ld x r0_23
def chunkV (x : Vec F S1x64x3072 .fp8e4m3) : ℕ → Vec F S1x64x512 .fp8e4m3
  | 0 => View.ld x r0_4 | 1 => View.ld x r0_8 | 2 => View.ld x r0_12 | 3 => View.ld x r0_16 | 4 => View.ld x r0_20 | _ => View.ld x r0_24
def chunkVS (x : Vec F S1x1x3072 .f32) : ℕ → Vec F S1x1x512 .f32
  | 0 => View.ld x r0_5 | 1 => View.ld x r0_9 | 2 => View.ld x r0_13 | 3 => View.ld x r0_17 | 4 => View.ld x r0_21 | _ => View.ld x r0_25

section Head

variable (t0 : BitVec 32) (x0 : Vec F S256x256 .fp8e4m3) (x1 : Vec F S1x4x256 .f32) (x2 : Vec F S1x3072x64 .fp8e4m3) (x3 : Vec F S1x64x3072 .fp8e4m3)
  (x4 : Vec F S1x1x3072 .f32) (x5 : Vec F S1x3072x1 .f32) (x6 : Vec F S1x512x64 .fp8e4m3) (x7 : Vec F S1x64x512 .fp8e4m3) (x8 : Vec F S1x1x512 .f32)
  (x9 : Vec F S1x512x1 .f32) (h : ℕ)

/-- Head `h`'s prompt scores, chunk by chunk. -/
def scoreP (n : ℕ) : FVec F S512x256 .f32 := score (queries (headQ x0 h)) (queryScales (headQS x1 h)) (chunkK x2 n) (chunkKS x5 n)
/-- Head `h`'s completion scores, its one chunk. -/
def scoreC (n : ℕ) : FVec F S512x256 .f32 := causal t0 (score (queries (headQ x0 h)) (queryScales (headQS x1 h)) (View.ld x6 r0_26) (View.ld x9 r0_27))

def headOut : FVec F S64x256 .f32 :=
  mergeOut (runMax (scoreP x0 x1 x2 x5 h) 6) (runSum (scoreP x0 x1 x2 x5 h) 6) (runAcc (scoreP x0 x1 x2 x5 h) (chunkV x3) (chunkVS x4) 6)
    (runMax (scoreC t0 x0 x1 x6 x9 h) 1) (runSum (scoreC t0 x0 x1 x6 x9 h) 1) (runAcc (scoreC t0 x0 x1 x6 x9 h) (fun _ => View.ld x7 r0_28) (fun _ => View.ld x8 r0_29) 1)
def headLP : FVec F S1x1x256 .f32 := promptLse (runMax (scoreP x0 x1 x2 x5 h) 6) (runSum (scoreP x0 x1 x2 x5 h) 6)
def headLC : FVec F S1x1x256 .f32 := completionLse t0 (runMax (scoreC t0 x0 x1 x6 x9 h) 1) (runSum (scoreC t0 x0 x1 x6 x9 h) 1)

end Head

variable (i : grid0.Coords) (x0 : Vec F S256x256 .fp8e4m3) (x1 : Vec F S1x4x256 .f32) (x2 : Vec F S1x3072x64 .fp8e4m3) (x3 : Vec F S1x64x3072 .fp8e4m3)
  (x4 : Vec F S1x1x3072 .f32) (x5 : Vec F S1x3072x1 .f32) (x6 : Vec F S1x512x64 .fp8e4m3) (x7 : Vec F S1x64x512 .fp8e4m3) (x8 : Vec F S1x1x512 .f32)
  (x9 : Vec F S1x512x1 .f32)

theorem out11_eq : out0_11 i x0 x1 x2 x3 x4 x5 x6 x7 x8 x9
    = View.canon [⟨r0_35, headLP x0 x1 x2 x5 3⟩, ⟨r0_33, headLP x0 x1 x2 x5 2⟩, ⟨r0_31, headLP x0 x1 x2 x5 1⟩, ⟨r0_1, headLP x0 x1 x2 x5 0⟩] := rfl

theorem out12_eq : out0_12 i x0 x1 x2 x3 x4 x5 x6 x7 x8 x9
    = View.canon [⟨r0_35, headLC (tileStart (BitVec.ofNat 32 (i 1).val)) x0 x1 x6 x9 3⟩, ⟨r0_33, headLC (tileStart (BitVec.ofNat 32 (i 1).val)) x0 x1 x6 x9 2⟩,
        ⟨r0_31, headLC (tileStart (BitVec.ofNat 32 (i 1).val)) x0 x1 x6 x9 1⟩, ⟨r0_1, headLC (tileStart (BitVec.ofNat 32 (i 1).val)) x0 x1 x6 x9 0⟩] := rfl

theorem out10_eq : out0_10 i x0 x1 x2 x3 x4 x5 x6 x7 x8 x9
    = View.canon [⟨r0_36, k0_pay2 (headOut (tileStart (BitVec.ofNat 32 (i 1).val)) x0 x1 x2 x3 x4 x5 x6 x7 x8 x9 0)
        (headOut (tileStart (BitVec.ofNat 32 (i 1).val)) x0 x1 x2 x3 x4 x5 x6 x7 x8 x9 1) (headOut (tileStart (BitVec.ofNat 32 (i 1).val)) x0 x1 x2 x3 x4 x5 x6 x7 x8 x9 2)
        (headOut (tileStart (BitVec.ofNat 32 (i 1).val)) x0 x1 x2 x3 x4 x5 x6 x7 x8 x9 3)⟩] := rfl

end Cert.Att

end
-- ==== Proof.Att.Steps.lean ====
/- The body's operations of `Model.lean` read at an index, over the extended reals. -/
module

public import proofs.«01_k».proof.Proof.Att.Model
public import proofs.«01_k».proof.Proof.Att.Softmax
public import Idealize.ShloMosaic.Lib.Pointwise

@[expose] public section

noncomputable section

namespace Cert.Att

open Cert.KernelIdeal Cert.KernelIdeal.Gen Idealize.ShloMosaic

/-- The mask is `⊥`. -/
theorem named_mask : (Named.named κ "mask" 0xF149F2CA#32 : Ideal .f32) = (⊥ : EReal) := IdealRules.named_const.ideal_named_scalar _ _ _ _ rfl
theorem named_scale : (Named.named κ "scale_log2e" 0x3E38AA3B#32 : Ideal .f32) = (((8 : ℝ)⁻¹ * (Real.log 2)⁻¹ : ℝ) : EReal) := by
  refine (IdealRules.named_const.ideal_named_scalar _ _ _ _ rfl).trans ?_
  simp
theorem named_ln2 : (Named.named κ "ln2" 0x3F317218#32 : Ideal .f32) = ((Real.log 2 : ℝ) : EReal) := IdealRules.named_const.ideal_named_scalar _ _ _ _ rfl

theorem queryScales_apply (x : Vec Ideal S1x1x256 .f32) (l : Fin 256) :
    queryScales x (ix2 0 l) = x (ix3 0 0 l) * (((8 : ℝ)⁻¹ * (Real.log 2)⁻¹ : ℝ) : EReal) := by
  pointwise [queryScales]
  rw [named_scale]

theorem score_apply (q : FVec Ideal S256x64 .fp8e4m3) (qs : FVec Ideal S1x256 .f32) (k : Vec Ideal S1x512x64 .fp8e4m3) (ks : Vec Ideal S1x512x1 .f32)
    (j : Fin 512) (l : Fin 256) :
    score q qs k ks (ix2 j l) = (∑ d : Fin 64, k (ix3 0 j d) * q (ix2 l d)) * ks (ix3 0 j 0) * qs (ix2 0 l) := by
  pointwise [score]

theorem queries_apply (x : Vec Ideal S256x64 .fp8e4m3) (l : Fin 256) (d : Fin 64) : queries x (ix2 l d) = x (ix2 l d) := by
  pointwise [queries]

theorem stepMax_apply (m : FVec Ideal S1x256 .f32) (t : FVec Ideal S512x256 .f32) (l : Fin 256) :
    stepMax m t (ix2 0 l) = max (m (ix2 0 l)) (Finset.univ.fold max (⊥ : EReal) fun j : Fin 512 => t (ix2 j l)) := by
  pointwise [stepMax]
  rfl

theorem stepSum_apply (m s : FVec Ideal S1x256 .f32) (t : FVec Ideal S512x256 .f32) (l : Fin 256) :
    stepSum m s t (ix2 0 l) = s (ix2 0 l) * Ideal.exp2 (m (ix2 0 l) - stepMax m t (ix2 0 l)) + ∑ j : Fin 512, Ideal.exp2 (t (ix2 j l) - stepMax m t (ix2 0 l)) := by
  pointwise [stepSum, rescale, weights]
  rfl

theorem stepAcc_apply (m : FVec Ideal S1x256 .f32) (a : FVec Ideal S64x256 .f32) (t : FVec Ideal S512x256 .f32) (v : Vec Ideal S1x64x512 .fp8e4m3) (vs : Vec Ideal S1x1x512 .f32) (d : Fin 64) (l : Fin 256) :
    stepAcc m a t v vs (ix2 d l) = a (ix2 d l) * Ideal.exp2 (m (ix2 0 l) - stepMax m t (ix2 0 l))
      + ∑ j : Fin 512, v (ix3 0 d j) * vs (ix3 0 0 j) * Ideal.exp2 (t (ix2 j l) - stepMax m t (ix2 0 l)) := by
  pointwise [stepAcc, rescale, weights]
  rfl

theorem mergeOut_apply (mp lp : FVec Ideal S1x256 .f32) (ap : FVec Ideal S64x256 .f32) (mc lc : FVec Ideal S1x256 .f32) (ac : FVec Ideal S64x256 .f32) (d : Fin 64) (l : Fin 256) :
    mergeOut mp lp ap mc lc ac (ix2 d l)
      = Ideal.div (ap (ix2 d l) * Ideal.exp2 (mp (ix2 0 l) - max (mp (ix2 0 l)) (mc (ix2 0 l))) + ac (ix2 d l) * Ideal.exp2 (mc (ix2 0 l) - max (mp (ix2 0 l)) (mc (ix2 0 l))))
          (lp (ix2 0 l) * Ideal.exp2 (mp (ix2 0 l) - max (mp (ix2 0 l)) (mc (ix2 0 l))) + lc (ix2 0 l) * Ideal.exp2 (mc (ix2 0 l) - max (mp (ix2 0 l)) (mc (ix2 0 l)))) := by
  pointwise [mergeOut, mergeFactor]
  rfl

theorem max0_apply (l : Fin 256) : (max0 : FVec Ideal S1x256 .f32) (ix2 0 l) = ⊥ := named_mask
theorem sum0_apply (l : Fin 256) : (sum0 : FVec Ideal S1x256 .f32) (ix2 0 l) = 0 := by pointwise [sum0]
theorem acc0_apply (d : Fin 64) (l : Fin 256) : (acc0 : FVec Ideal S64x256 .f32) (ix2 d l) = 0 := by pointwise [acc0]

theorem promptLse_apply (m s : FVec Ideal S1x256 .f32) (l : Fin 256) :
    promptLse m s (ix3 0 0 l) = m (ix2 0 l) * ((Real.log 2 : ℝ) : EReal) + Ideal.log (s (ix2 0 l)) - Ideal.ofBits .f32 0x41007B39#32 := by
  pointwise [promptLse]
  rw [named_ln2]

theorem completionLse_apply (t0 : BitVec 32) (m s : FVec Ideal S1x256 .f32) (l : Fin 256) :
    completionLse t0 m s (ix3 0 0 l) = m (ix2 0 l) * ((Real.log 2 : ℝ) : EReal) + Ideal.log (s (ix2 0 l))
      - Ideal.log (((BitVec.ofNat 32 l.val + (t0 + 1#32)).toInt : ℝ) : EReal) := by
  pointwise [completionLse]
  rw [named_ln2]
  rfl

/-- A small number as a word, read as a signed integer. -/
theorem toInt_small {n : ℕ} (h : n < 2 ^ 31) : (BitVec.ofNat 32 n).toInt = (n : ℤ) := by
  rw [BitVec.toInt_eq_toNat_of_lt]
  · rw [BitVec.toNat_ofNat, Nat.mod_eq_of_lt (h.trans (by norm_num))]
  · rw [BitVec.toNat_ofNat, Nat.mod_eq_of_lt (h.trans (by norm_num))]; omega

/-- The mask of `causal`: key `j` is visible to the query at `l` of a tile starting at `n`, exactly if `j ≤ n + l`. -/
theorem causal_apply {n : ℕ} (hn : n < 2 ^ 30) (t : FVec Ideal S512x256 .f32) (j : Fin 512) (l : Fin 256) :
    causal (BitVec.ofNat 32 n) t (ix2 j l) = if j.val ≤ n + l.val then t (ix2 j l) else ⊥ := by
  have hj := j.isLt
  have hl := l.isLt
  pointwise [causal]
  rw [named_mask]
  have e1 : IntOp.addi (BitVec.ofNat 32 j.val) 0#32 = BitVec.ofNat 32 j.val := BitVec.add_zero _
  have e2 : IntOp.addi (BitVec.ofNat 32 l.val) (BitVec.ofNat 32 n) = BitVec.ofNat 32 (n + l.val) := by
    show BitVec.ofNat 32 l.val + BitVec.ofNat 32 n = _
    rw [← BitVec.ofNat_add, Nat.add_comm]
  have e3 : IntOp.cmpi .sle (BitVec.ofNat 32 j.val) (BitVec.ofNat 32 (n + l.val)) = BitVec.ofBool (decide (j.val ≤ n + l.val)) := by
    show BitVec.ofBool ((BitVec.ofNat 32 j.val).sle (BitVec.ofNat 32 (n + l.val))) = _
    rw [BitVec.sle, toInt_small (by omega), toInt_small (by omega)]
    exact congrArg _ (decide_eq_decide.2 (by omega))
  rw [e1, e2, e3]
  by_cases h : j.val ≤ n + l.val
  · rw [if_pos h, decide_eq_true h]; rfl
  · rw [if_neg h, decide_eq_false h]; rfl

/-- The number of keys visible to the query at `l` of a tile starting at `n`. -/
theorem count_toInt {n : ℕ} (hn : n < 2 ^ 30) (l : Fin 256) : ((BitVec.ofNat 32 l.val + (BitVec.ofNat 32 n + 1#32)).toInt : ℝ) = ((n + l.val + 1 : ℕ) : ℝ) := by
  have hl := l.isLt
  have e : BitVec.ofNat 32 l.val + (BitVec.ofNat 32 n + 1#32) = BitVec.ofNat 32 (n + l.val + 1) := by
    rw [show (1#32 : BitVec 32) = BitVec.ofNat 32 1 from rfl, ← BitVec.ofNat_add, ← BitVec.ofNat_add]
    congr 1; omega
  rw [e, toInt_small (by omega)]
  norm_cast

/-- The tile's first position: tiles alternate between the two halves of a sequence. -/
theorem tileStart_eq (t : Fin 8) : tileStart (BitVec.ofNat 32 t.val) = BitVec.ofNat 32 (t.val % 2 * 256) := by
  revert t; decide

/-- The streamed states of a column after all `N` chunks, given the column's scores `t` and weighted values `w`. -/
theorem run_acc (T : ℕ → FVec Ideal S512x256 .f32) (v : ℕ → Vec Ideal S1x64x512 .fp8e4m3) (vs : ℕ → Vec Ideal S1x1x512 .f32) (l : Fin 256)
    (t : ℕ → EReal) (w : Fin 64 → ℕ → EReal) (N : ℕ) (hT : ∀ c < N, ∀ j : Fin 512, T c (ix2 j l) = t (512 * c + j))
    (hw : ∀ c < N, ∀ d (j : Fin 512), v c (ix3 0 d j) * vs c (ix3 0 0 j) = w d (512 * c + j)) (ht : ∀ i < 512 * N, t i ≠ ⊤) :
    ∀ n ≤ N, Acc t w (512 * n) (runMax T n (ix2 0 l)) (runSum T n (ix2 0 l)) fun d => runAcc T v vs n (ix2 d l) := by
  intro n
  induction n with
  | zero =>
    intro _
    have h := Acc.init t w
    rwa [← max0_apply l, ← sum0_apply l, show (fun _ : Fin 64 => (sum0 : FVec Ideal S1x256 .f32) (ix2 0 l)) = fun d => (acc0 : FVec Ideal S64x256 .f32) (ix2 d l) from
      funext fun d => by rw [sum0_apply, acc0_apply]] at h
  | succ n ih =>
    intro hn
    refine (ih (by omega)).step 512 (fun i hi => ht i (by omega)) ?_ ?_ fun d => ?_
    · show stepMax (runMax T n) (T n) (ix2 0 l) = _
      rw [stepMax_apply]; simp only [hT n (by omega)]
    · show stepSum (runMax T n) (runSum T n) (T n) (ix2 0 l) = _
      rw [stepSum_apply]; simp only [hT n (by omega)]; rfl
    · show stepAcc (runMax T n) (runAcc T v vs n) (T n) (v n) (vs n) (ix2 d l) = _
      rw [stepAcc_apply]; simp only [hT n (by omega), hw n (by omega)]; rfl

end Cert.Att

end
-- ==== Proof.Att.Heads.lean ====
/- One head of the kernel's block, read at a lane and a query: the closed forms of `Spec.lean` on the columns `blkP`
   (prompt) and `blkC` (completion) of the point's blocks. -/
module

public import proofs.«01_k».proof.Proof.Att.Steps
public import proofs.«01_k».proof.Proof.Att.Spec

@[expose] public section

set_option maxRecDepth 16384

noncomputable section

namespace Cert.Att

open Cert.KernelIdeal Cert.KernelIdeal.Gen Idealize.ShloMosaic

section Blocks

variable (x0 : Vec Ideal S256x256 .fp8e4m3) (x1 : Vec Ideal S1x4x256 .f32) (x2 : Vec Ideal S1x3072x64 .fp8e4m3) (x3 : Vec Ideal S1x64x3072 .fp8e4m3)
  (x4 : Vec Ideal S1x1x3072 .f32) (x5 : Vec Ideal S1x3072x1 .f32) (x6 : Vec Ideal S1x512x64 .fp8e4m3) (x7 : Vec Ideal S1x64x512 .fp8e4m3)
  (x8 : Vec Ideal S1x1x512 .f32) (x9 : Vec Ideal S1x512x1 .f32) (h : Fin 4) (l : Fin 256)

/-- Query `l` of head `h` over the prompt. -/
def blkP : Col where
  q d := x0 (ix2 l ⟨h.val * 64 + d.val, by omega⟩)
  qs := x1 (ix3 0 h l)
  k i d := x2 (ix3 0 (Fin.ofNat 3072 i) d)
  ks i := x5 (ix3 0 (Fin.ofNat 3072 i) 0)
  v i d := x3 (ix3 0 d (Fin.ofNat 3072 i))
  vs i := x4 (ix3 0 0 (Fin.ofNat 3072 i))

/-- Query `l` of head `h` over the completion. -/
def blkC : Col where
  q d := x0 (ix2 l ⟨h.val * 64 + d.val, by omega⟩)
  qs := x1 (ix3 0 h l)
  k i d := x6 (ix3 0 (Fin.ofNat 512 i) d)
  ks i := x9 (ix3 0 (Fin.ofNat 512 i) 0)
  v i d := x7 (ix3 0 d (Fin.ofNat 512 i))
  vs i := x8 (ix3 0 0 (Fin.ofNat 512 i))

/-! ## The loads -/

theorem ofNat_of_lt {k i : ℕ} [NeZero k] (hi : i < k) : Fin.ofNat k i = ⟨i, hi⟩ := Fin.ext (Nat.mod_eq_of_lt hi)

theorem headQ_apply (d : Fin 64) : headQ x0 h.val (ix2 l d) = x0 (ix2 l ⟨h.val * 64 + d.val, by omega⟩) := by
  fin_cases h <;> pointwise [headQ] <;> first | rfl | (congr 2; apply Fin.ext; simp; try omega)

theorem headQS_apply : headQS x1 h.val (ix3 0 0 l) = x1 (ix3 0 h l) := by
  fin_cases h <;> pointwise [headQS] <;> rfl

theorem chunkK_apply (c : ℕ) (hc : c < 6) (j : Fin 512) (d : Fin 64) : chunkK x2 c (ix3 0 j d) = x2 (ix3 0 (Fin.ofNat 3072 (512 * c + j.val)) d) := by
  rw [ofNat_of_lt (by omega)]
  interval_cases c <;> pointwise [chunkK] <;> first | rfl | (congr 2; apply Fin.ext; simp; try omega)

theorem chunkKS_apply (c : ℕ) (hc : c < 6) (j : Fin 512) : chunkKS x5 c (ix3 0 j 0) = x5 (ix3 0 (Fin.ofNat 3072 (512 * c + j.val)) 0) := by
  rw [ofNat_of_lt (by omega)]
  interval_cases c <;> pointwise [chunkKS] <;> first | rfl | (congr 2; apply Fin.ext; simp; try omega)

theorem chunkV_apply (c : ℕ) (hc : c < 6) (j : Fin 512) (d : Fin 64) : chunkV x3 c (ix3 0 d j) = x3 (ix3 0 d (Fin.ofNat 3072 (512 * c + j.val))) := by
  rw [ofNat_of_lt (by omega)]
  interval_cases c <;> pointwise [chunkV] <;> first | rfl | (congr 2; apply Fin.ext; simp; try omega)

theorem chunkVS_apply (c : ℕ) (hc : c < 6) (j : Fin 512) : chunkVS x4 c (ix3 0 0 j) = x4 (ix3 0 0 (Fin.ofNat 3072 (512 * c + j.val))) := by
  rw [ofNat_of_lt (by omega)]
  interval_cases c <;> pointwise [chunkVS] <;> first | rfl | (congr 2; apply Fin.ext; simp; try omega)

/-! ## The scores -/

theorem scoreP_apply (c : ℕ) (hc : c < 6) (j : Fin 512) : scoreP x0 x1 x2 x5 h.val c (ix2 j l) = (blkP x0 x1 x2 x3 x4 x5 h l).t (512 * c + j.val) := by
  rw [scoreP, score_apply, queryScales_apply, headQS_apply, chunkKS_apply x5 c hc]
  simp only [queries_apply, headQ_apply, chunkK_apply x2 c hc]
  rfl

theorem scoreC_apply {n : ℕ} (hn : n < 2 ^ 30) (c : ℕ) (hc : c < 1) (j : Fin 512) : scoreC (BitVec.ofNat 32 n) x0 x1 x6 x9 h.val c (ix2 j l)
    = masked (n + l.val) (blkC x0 x1 x6 x7 x8 x9 h l).t (512 * c + j.val) := by
  obtain rfl : c = 0 := by omega
  have e1 : ∀ d, View.ld x6 r0_26 (ix3 0 j d) = x6 (ix3 0 j d) := fun d => by pointwise
  have e2 : View.ld x9 r0_27 (ix3 0 j 0) = x9 (ix3 0 j 0) := by pointwise
  rw [scoreC, causal_apply hn, score_apply, queryScales_apply, headQS_apply, e2]
  simp only [queries_apply, headQ_apply, e1, masked, Col.t, blkC, Nat.mul_zero, Nat.zero_add, ofNat_of_lt j.isLt]

theorem valueP_apply (c : ℕ) (hc : c < 6) (d : Fin 64) (j : Fin 512) : chunkV x3 c (ix3 0 d j) * chunkVS x4 c (ix3 0 0 j)
    = (blkP x0 x1 x2 x3 x4 x5 h l).w d (512 * c + j.val) := by
  rw [chunkV_apply x3 c hc, chunkVS_apply x4 c hc]; rfl

theorem valueC_apply (c : ℕ) (hc : c < 1) (d : Fin 64) (j : Fin 512) : View.ld x7 r0_28 (ix3 0 d j) * View.ld x8 r0_29 (ix3 0 0 j)
    = (blkC x0 x1 x6 x7 x8 x9 h l).w d (512 * c + j.val) := by
  obtain rfl : c = 0 := by omega
  have e1 : View.ld x7 r0_28 (ix3 0 d j) = x7 (ix3 0 d j) := by pointwise
  have e2 : View.ld x8 r0_29 (ix3 0 0 j) = x8 (ix3 0 0 j) := by pointwise
  rw [e1, e2]
  simp only [Col.w, blkC, Nat.mul_zero, Nat.zero_add, ofNat_of_lt j.isLt]

/-! ## The streamed states -/

theorem accP (hp : ∀ i < 3072, (blkP x0 x1 x2 x3 x4 x5 h l).t i ≠ ⊤) :
    Acc (blkP x0 x1 x2 x3 x4 x5 h l).t (blkP x0 x1 x2 x3 x4 x5 h l).w 3072 (runMax (scoreP x0 x1 x2 x5 h.val) 6 (ix2 0 l))
      (runSum (scoreP x0 x1 x2 x5 h.val) 6 (ix2 0 l)) fun d => runAcc (scoreP x0 x1 x2 x5 h.val) (chunkV x3) (chunkVS x4) 6 (ix2 d l) :=
  run_acc _ _ _ l _ _ 6 (fun c hc j => scoreP_apply x0 x1 x2 x3 x4 x5 h l c hc j) (fun c hc d j => valueP_apply x0 x1 x2 x3 x4 x5 h l c hc d j) hp 6 le_rfl

theorem accC {n : ℕ} (hn : n < 2 ^ 30) (hc : ∀ i < 512, masked (n + l.val) (blkC x0 x1 x6 x7 x8 x9 h l).t i ≠ ⊤) :
    Acc (masked (n + l.val) (blkC x0 x1 x6 x7 x8 x9 h l).t) (blkC x0 x1 x6 x7 x8 x9 h l).w 512 (runMax (scoreC (BitVec.ofNat 32 n) x0 x1 x6 x9 h.val) 1 (ix2 0 l))
      (runSum (scoreC (BitVec.ofNat 32 n) x0 x1 x6 x9 h.val) 1 (ix2 0 l))
      fun d => runAcc (scoreC (BitVec.ofNat 32 n) x0 x1 x6 x9 h.val) (fun _ => View.ld x7 r0_28) (fun _ => View.ld x8 r0_29) 1 (ix2 d l) :=
  run_acc _ _ _ l _ _ 1 (fun c hc j => scoreC_apply x0 x1 x6 x7 x8 x9 h l hn c hc j) (fun c hc d j => valueC_apply x0 x1 x6 x7 x8 x9 h l c hc d j) hc 1 le_rfl

/-! ## The head's results -/

theorem headOut_apply {n : ℕ} (hn : n < 2 ^ 30) (d : Fin 64) (hp : ∀ i < 3072, (blkP x0 x1 x2 x3 x4 x5 h l).t i ≠ ⊤)
    (hc : ∀ i < 512, masked (n + l.val) (blkC x0 x1 x6 x7 x8 x9 h l).t i ≠ ⊤) :
    headOut (BitVec.ofNat 32 n) x0 x1 x2 x3 x4 x5 x6 x7 x8 x9 h.val (ix2 d l)
      = out2 (blkP x0 x1 x2 x3 x4 x5 h l).t ((blkP x0 x1 x2 x3 x4 x5 h l).w d) 3072
          (masked (n + l.val) (blkC x0 x1 x6 x7 x8 x9 h l).t) ((blkC x0 x1 x6 x7 x8 x9 h l).w d) 512 := by
  have P := accP x0 x1 x2 x3 x4 x5 h l hp
  have C := accC x0 x1 x6 x7 x8 x9 h l hn hc
  rw [headOut, mergeOut_apply, out2, merge2, sumExp2, sumExp2, accExp2, accExp2, ← P.max_eq, ← C.max_eq, ← P.sum_eq, ← C.sum_eq, ← P.acc_eq d, ← C.acc_eq d]

theorem headLP_apply (hp : ∀ i < 3072, (blkP x0 x1 x2 x3 x4 x5 h l).t i ≠ ⊤) : headLP x0 x1 x2 x5 h.val (ix3 0 0 l)
    = lse2 (blkP x0 x1 x2 x3 x4 x5 h l).t 3072 - Ideal.ofBits .f32 0x41007B39#32 := by
  have P := accP x0 x1 x2 x3 x4 x5 h l hp
  rw [headLP, promptLse_apply, lse2, sumExp2, ← P.max_eq, ← P.sum_eq]

theorem headLC_apply {n : ℕ} (hn : n < 2 ^ 30) (hc : ∀ i < 512, masked (n + l.val) (blkC x0 x1 x6 x7 x8 x9 h l).t i ≠ ⊤) :
    headLC (BitVec.ofNat 32 n) x0 x1 x6 x9 h.val (ix3 0 0 l)
      = lse2 (masked (n + l.val) (blkC x0 x1 x6 x7 x8 x9 h l).t) 512 - Ideal.log (((n + l.val + 1 : ℕ) : ℝ) : EReal) := by
  have C := accC x0 x1 x6 x7 x8 x9 h l hn hc
  rw [headLC, completionLse_apply, count_toInt hn, lse2, sumExp2, ← C.max_eq, ← C.sum_eq]

end Blocks

end Cert.Att

end
-- ==== Proof.Att.Blocks.lean ====
/- The kernel's input blocks at a grid point, in terms of the arguments: query `l` of head `h` of the point's block is row
   `rowN t l` of head `headN t h`, over the prompt and over its sequence's completion. -/
module

public import proofs.«01_k».proof.Proof.Att.KerArgs
public import proofs.«01_k».proof.Proof.Att.Heads
public import Idealize.ShloMosaic.Lib.Pipeline.ValueKit.Geometry

@[expose] public section

set_option maxRecDepth 16384

noncomputable section

namespace Cert.Att

open Cert.KernelIdeal Cert.KernelIdeal.Gen Idealize.ShloMosaic Idealize.ShloMosaic.TcCoe

/-! ## The grid -/

/-- The point's key head, row tile and group of four query heads. -/
theorem coords_lt : ∀ t : Fin cfg0.N, (grid0.coords t 0).val < 2 ∧ (grid0.coords t 1).val < 8 ∧ (grid0.coords t 2).val < 4 :=
  (by decide +kernel : ∀ t : Fin grid0.N, _)

theorem index0 : ∀ t : Fin cfg0.N, win0_0.index t = ![(grid0.coords t 1).val, (grid0.coords t 0).val * 4 + (grid0.coords t 2).val] :=
  (by decide +kernel : ∀ t : Fin grid0.N, _)
theorem index1 : ∀ t : Fin cfg0.N, win0_1.index t = ![(grid0.coords t 0).val * 4 + (grid0.coords t 2).val, 0, (grid0.coords t 1).val] :=
  (by decide +kernel : ∀ t : Fin grid0.N, _)
theorem index2 : ∀ t : Fin cfg0.N, win0_2.index t = ![(grid0.coords t 0).val, 0, 0] := (by decide +kernel : ∀ t : Fin grid0.N, _)
theorem index3 : ∀ t : Fin cfg0.N, win0_3.index t = ![(grid0.coords t 0).val, 0, 0] := (by decide +kernel : ∀ t : Fin grid0.N, _)
theorem index4 : ∀ t : Fin cfg0.N, win0_4.index t = ![(grid0.coords t 0).val, 0, 0] := (by decide +kernel : ∀ t : Fin grid0.N, _)
theorem index5 : ∀ t : Fin cfg0.N, win0_5.index t = ![(grid0.coords t 0).val, 0, 0] := (by decide +kernel : ∀ t : Fin grid0.N, _)
theorem index6 : ∀ t : Fin cfg0.N, win0_6.index t = ![(grid0.coords t 0).val * 4 + (grid0.coords t 1).val / 2, 0, 0] := (by decide +kernel : ∀ t : Fin grid0.N, _)
theorem index7 : ∀ t : Fin cfg0.N, win0_7.index t = ![(grid0.coords t 0).val * 4 + (grid0.coords t 1).val / 2, 0, 0] := (by decide +kernel : ∀ t : Fin grid0.N, _)
theorem index8 : ∀ t : Fin cfg0.N, win0_8.index t = ![(grid0.coords t 0).val * 4 + (grid0.coords t 1).val / 2, 0, 0] := (by decide +kernel : ∀ t : Fin grid0.N, _)
theorem index9 : ∀ t : Fin cfg0.N, win0_9.index t = ![(grid0.coords t 0).val * 4 + (grid0.coords t 1).val / 2, 0, 0] := (by decide +kernel : ∀ t : Fin grid0.N, _)
theorem index10 : ∀ t : Fin cfg0.N, win0_10.index t = ![(grid0.coords t 1).val, (grid0.coords t 0).val * 4 + (grid0.coords t 2).val] :=
  (by decide +kernel : ∀ t : Fin grid0.N, _)
theorem index11 : ∀ t : Fin cfg0.N, win0_11.index t = ![(grid0.coords t 0).val * 4 + (grid0.coords t 2).val, 0, (grid0.coords t 1).val] :=
  (by decide +kernel : ∀ t : Fin grid0.N, _)
theorem index12 : ∀ t : Fin cfg0.N, win0_12.index t = ![(grid0.coords t 0).val * 4 + (grid0.coords t 2).val, 0, (grid0.coords t 1).val] :=
  (by decide +kernel : ∀ t : Fin grid0.N, _)

/-- The head of the point's head `h`. -/
def headN (t : Fin cfg0.N) (h : Fin 4) : Fin 32 :=
  ⟨((grid0.coords t 0).val * 4 + (grid0.coords t 2).val) * 4 + h.val, by have := coords_lt t; omega⟩
/-- The row of the point's row `l`. -/
def rowN (t : Fin cfg0.N) (l : Fin 256) : Fin 2048 := ⟨(grid0.coords t 1).val * 256 + l.val, by have := coords_lt t; omega⟩

/-- The point's key head. -/
def kvN (t : Fin cfg0.N) : Fin 2 := ⟨(grid0.coords t 0).val, (coords_lt t).1⟩
/-- The point's key head and sequence. -/
def seqN (t : Fin cfg0.N) : Fin 8 := ⟨(grid0.coords t 0).val * 4 + (grid0.coords t 1).val / 2, by have := coords_lt t; omega⟩

theorem kvOf_headN (t : Fin cfg0.N) (h : Fin 4) : kvOf (headN t h) = kvN t := by
  have := coords_lt t
  exact Fin.ext (by show (((grid0.coords t 0).val * 4 + (grid0.coords t 2).val) * 4 + h.val) / 16 = (grid0.coords t 0).val; omega)
theorem seqN_kv (t : Fin cfg0.N) : (⟨(seqN t).val / 4, by omega⟩ : Fin 2) = kvN t := by
  have := coords_lt t
  exact Fin.ext (by show ((grid0.coords t 0).val * 4 + (grid0.coords t 1).val / 2) / 4 = (grid0.coords t 0).val; omega)
theorem seqN_batch (t : Fin cfg0.N) (l : Fin 256) : (⟨(seqN t).val % 4, by omega⟩ : Fin 4) = batch (rowN t l) := by
  have := coords_lt t
  exact Fin.ext (by show ((grid0.coords t 0).val * 4 + (grid0.coords t 1).val / 2) % 4 = ((grid0.coords t 1).val * 256 + l.val) / 512; omega)
theorem rowN_mod (t : Fin cfg0.N) (l : Fin 256) : (grid0.coords t 1).val % 2 * 256 + l.val = (rowN t l).val % 512 := by
  show (grid0.coords t 1).val % 2 * 256 + l.val = ((grid0.coords t 1).val * 256 + l.val) % 512; omega

/-! ## The blocks -/

variable (m : (ℓ : Loc nD τ sig) → Buf (Elt Ideal) ℓ) (c : Dev nD) (t : Fin cfg0.N)

/-- The blocks the point reads. -/
abbrev x0 : Vec Ideal S256x256 .fp8e4m3 := iblk m c 0 t
abbrev x1 : Vec Ideal S1x4x256 .f32 := iblk m c 1 t
abbrev x2 : Vec Ideal S1x3072x64 .fp8e4m3 := iblk m c 2 t
abbrev x3 : Vec Ideal S1x64x3072 .fp8e4m3 := iblk m c 3 t
abbrev x4 : Vec Ideal S1x1x3072 .f32 := iblk m c 4 t
abbrev x5 : Vec Ideal S1x3072x1 .f32 := iblk m c 5 t
abbrev x6 : Vec Ideal S1x512x64 .fp8e4m3 := iblk m c 6 t
abbrev x7 : Vec Ideal S1x64x512 .fp8e4m3 := iblk m c 7 t
abbrev x8 : Vec Ideal S1x1x512 .f32 := iblk m c 8 t
abbrev x9 : Vec Ideal S1x512x1 .f32 := iblk m c 9 t

theorem x0_apply (h : Fin 4) (l : Fin 256) (d : Fin 64) : x0 m c t (ix2 l ⟨h.val * 64 + d.val, by omega⟩)
    = code ((argsK m c).q (ix4 (batch (rowN t l)) (pos (rowN t l)) (headN t h) d)) := by
  have hc := coords_lt t
  have e : (win0_0.blk t).view.emb (ix2 l ⟨h.val * 64 + d.val, by omega⟩)
      = ix2 (rowN t l) (⟨((grid0.coords t 0).val * 4 + (grid0.coords t 2).val) * 256 + (h.val * 64 + d.val), by omega⟩ : Fin 2048) := by
    blk_ext [index0, rowN]
  refine (congrArg (V m c main_v3) e).trans ((V3 m c _ _).trans ?_)
  congr 3
  · exact Fin.ext (by show (((grid0.coords t 0).val * 4 + (grid0.coords t 2).val) * 256 + (h.val * 64 + d.val)) / 64
      = ((grid0.coords t 0).val * 4 + (grid0.coords t 2).val) * 4 + h.val; omega)
  · exact Fin.ext (by show (((grid0.coords t 0).val * 4 + (grid0.coords t 2).val) * 256 + (h.val * 64 + d.val)) % 64 = d.val; omega)

theorem x1_apply (h : Fin 4) (l : Fin 256) : x1 m c t (ix3 0 h l) = (argsK m c).qs (ix3 (batch (rowN t l)) (pos (rowN t l)) (headN t h)) := by
  have hc := coords_lt t
  have e : (win0_1.blk t).view.emb (ix3 0 h l)
      = ix3 (⟨(grid0.coords t 0).val * 4 + (grid0.coords t 2).val, by omega⟩ : Fin 8) h (rowN t l) := by
    blk_ext [index1, rowN]
  exact (congrArg (V m c main_v5) e).trans (V5 m c _ _ _)

theorem x2_apply (i : Fin 3072) (d : Fin 64) : x2 m c t (ix3 0 i d) = code ((argsK m c).pk (ix3 i (kvN t) d)) := by
  have e : (win0_2.blk t).view.emb (ix3 0 i d) = ix3 (kvN t) i d := by blk_ext [index2, kvN]
  exact (congrArg (V m c main_v6) e).trans (V6 m c _ _ _)
theorem x3_apply (i : Fin 3072) (d : Fin 64) : x3 m c t (ix3 0 d i) = (argsK m c).pv (ix3 i (kvN t) d) := by
  have e : (win0_3.blk t).view.emb (ix3 0 d i) = ix3 (kvN t) d i := by blk_ext [index3, kvN]
  exact (congrArg (V m c main_v7) e).trans (V7 m c _ _ _)
theorem x4_apply (i : Fin 3072) : x4 m c t (ix3 0 0 i) = (argsK m c).pvs (ix2 i (kvN t)) := by
  have e : (win0_4.blk t).view.emb (ix3 0 0 i) = ix3 (kvN t) 0 i := by blk_ext [index4, kvN]
  exact (congrArg (V m c main_v9) e).trans (V9 m c _ _)
theorem x5_apply (i : Fin 3072) : x5 m c t (ix3 0 i 0) = (argsK m c).pks (ix2 i (kvN t)) := by
  have e : (win0_5.blk t).view.emb (ix3 0 i 0) = ix3 (kvN t) i 0 := by blk_ext [index5, kvN]
  exact (congrArg (V m c main_v11) e).trans (V11 m c _ _)

theorem x6_apply (l : Fin 256) (i : Fin 512) (d : Fin 64) : x6 m c t (ix3 0 i d) = code ((argsK m c).k (ix4 (batch (rowN t l)) i (kvN t) d)) := by
  have e : (win0_6.blk t).view.emb (ix3 0 i d) = ix3 (seqN t) i d := by blk_ext [index6, seqN]
  rw [← seqN_batch t l, ← seqN_kv t]
  exact (congrArg (V m c main_v13) e).trans (V13 m c _ _ _)
theorem x7_apply (l : Fin 256) (i : Fin 512) (d : Fin 64) : x7 m c t (ix3 0 d i) = (argsK m c).v (ix4 (batch (rowN t l)) i (kvN t) d) := by
  have e : (win0_7.blk t).view.emb (ix3 0 d i) = ix3 (seqN t) d i := by blk_ext [index7, seqN]
  rw [← seqN_batch t l, ← seqN_kv t]
  exact (congrArg (V m c main_v15) e).trans (V15 m c _ _ _)
theorem x8_apply (l : Fin 256) (i : Fin 512) : x8 m c t (ix3 0 0 i) = (argsK m c).vs (ix3 (batch (rowN t l)) i (kvN t)) := by
  have e : (win0_8.blk t).view.emb (ix3 0 0 i) = ix3 (seqN t) 0 i := by blk_ext [index8, seqN]
  rw [← seqN_batch t l, ← seqN_kv t]
  exact (congrArg (V m c main_v18) e).trans (V18 m c _ _)
theorem x9_apply (l : Fin 256) (i : Fin 512) : x9 m c t (ix3 0 i 0) = (argsK m c).ks (ix3 (batch (rowN t l)) i (kvN t)) := by
  have e : (win0_9.blk t).view.emb (ix3 0 i 0) = ix3 (seqN t) i 0 := by blk_ext [index9, seqN]
  rw [← seqN_batch t l, ← seqN_kv t]
  exact (congrArg (V m c main_v21) e).trans (V21 m c _ _)

/-! ## The columns -/

theorem blkP_eq (h : Fin 4) (l : Fin 256) : blkP (x0 m c t) (x1 m c t) (x2 m c t) (x3 m c t) (x4 m c t) (x5 m c t) h l = colP (argsK m c) (headN t h) (rowN t l) := by
  simp only [blkP, colP, x0_apply, x1_apply, x2_apply, x3_apply, x4_apply, x5_apply, kvOf_headN]

theorem blkC_eq (h : Fin 4) (l : Fin 256) : blkC (x0 m c t) (x1 m c t) (x6 m c t) (x7 m c t) (x8 m c t) (x9 m c t) h l = colC (argsK m c) (headN t h) (rowN t l) := by
  simp only [blkC, colC, x0_apply, x1_apply, x6_apply m c t l, x7_apply m c t l, x8_apply m c t l, x9_apply m c t l, kvOf_headN]

end Cert.Att

end
-- ==== Proof.Att.Results.lean ====
/- The three result arrays of the attention, as functions of the arguments. -/
module

public import proofs.«01_k».proof.Proof.Att.Args

@[expose] public section

noncomputable section

namespace Cert.Att

open Idealize.ShloMosaic

/-- The merged attention output: row by head and lane. -/
def resO (A : Args) : FVec Ideal ⟨2, ![2048, 2048]⟩ .bf16 := fun i =>
  outAt A ⟨(i 1).val / 64, by have : (i 1).val < 2048 := (i 1).isLt; omega⟩ (i 0) ⟨(i 1).val % 64, by omega⟩
/-- The prompt's log-sum-exps: head (in groups of four) by row. -/
def resP (A : Args) : FVec Ideal ⟨3, ![8, 4, 2048]⟩ .f32 := fun i =>
  lsePAt A ⟨(i 0).val * 4 + (i 1).val, by have : (i 0).val < 8 := (i 0).isLt; have : (i 1).val < 4 := (i 1).isLt; omega⟩ (i 2)
/-- The completions' log-sum-exps: head (in groups of four) by row. -/
def resC (A : Args) : FVec Ideal ⟨3, ![8, 4, 2048]⟩ .f32 := fun i =>
  lseCAt A ⟨(i 0).val * 4 + (i 1).val, by have : (i 0).val < 8 := (i 0).isLt; have : (i 1).val < 4 := (i 1).isLt; omega⟩ (i 2)

theorem resO_at (A : Args) (i : (⟨2, ![2048, 2048]⟩ : Shape).Idx) (n : Fin 32) (r : Fin 2048) (d : Fin 64) (h0 : (i 0).val = r.val)
    (h1 : (i 1).val = n.val * 64 + d.val) : resO A i = outAt A n r d := by
  have e0 : i 0 = r := Fin.ext h0
  have e1 : (⟨(i 1).val / 64, by have : (i 1).val < 2048 := (i 1).isLt; omega⟩ : Fin 32) = n := Fin.ext (by show (i 1).val / 64 = n.val; omega)
  have e2 : (⟨(i 1).val % 64, by omega⟩ : Fin 64) = d := Fin.ext (by show (i 1).val % 64 = d.val; omega)
  rw [resO, e0, e1, e2]
theorem resP_at (A : Args) (i : (⟨3, ![8, 4, 2048]⟩ : Shape).Idx) (n : Fin 32) (r : Fin 2048) (h0 : (i 0).val * 4 + (i 1).val = n.val) (h2 : (i 2).val = r.val) :
    resP A i = lsePAt A n r :=
  congr (congrArg (lsePAt A) (Fin.ext h0)) (Fin.ext h2)
theorem resC_at (A : Args) (i : (⟨3, ![8, 4, 2048]⟩ : Shape).Idx) (n : Fin 32) (r : Fin 2048) (h0 : (i 0).val * 4 + (i 1).val = n.val) (h2 : (i 2).val = r.val) :
    resC A i = lseCAt A n r :=
  congr (congrArg (lseCAt A) (Fin.ext h0)) (Fin.ext h2)

end Cert.Att

end
-- ==== Proof.Att.KerRun.lean ====
/- The kernel's result arrays: every point's blocks are the closed forms of the arguments at the point's rows and heads, and the
   blocks cover the arrays. -/
module

public import proofs.«01_k».proof.Proof.Att.Blocks
public import proofs.«01_k».proof.Proof.Att.Results

@[expose] public section

set_option maxRecDepth 16384

noncomputable section

namespace Cert.Att

open Cert.KernelIdeal Cert.KernelIdeal.Gen Idealize.ShloMosaic Idealize.ShloMosaic.TcCoe

/-! ## The stores -/

/-- Four heads' outputs put together: lane `d` of head `h` at query `l`. -/
theorem join_apply (p : Fin 4 → FVec Ideal S64x256 .f32) (l : Fin 256) (h : Fin 4) (d : Fin 64) :
    k0_pay2 (p 0) (p 1) (p 2) (p 3) (ix2 l ⟨h.val * 64 + d.val, by omega⟩) = p h (ix2 d l) := by
  have hd := d.isLt
  fin_cases h <;> pointwise [k0_pay2]
  · rw [dif_neg (by omega), dif_neg (by omega), dif_pos (by omega)]
    exact congrArg (fun k => p 2 (ix2 k l)) (Fin.ext (by show 128 + d.val - 64 - 64 = d.val; omega))
  · rw [dif_neg (by omega), dif_neg (by omega), dif_neg (by omega)]
    exact congrArg (fun k => p 3 (ix2 k l)) (Fin.ext (by show 192 + d.val - 64 - 64 - 64 = d.val; omega))

/-- A row's index has only its lane. -/
theorem row_idx (x : S1x1x256.Idx) : x = ix3 0 0 (x 2) := by
  refine (eq_ix3 (n0 := 1) (n1 := 1) (n2 := 256) x).trans ?_
  rw [Fin.fin_one_eq_zero (x 0), Fin.fin_one_eq_zero (x 1)]
  rfl

/-- Four heads' rows stored one after the other. -/
theorem rows_apply (p : Fin 4 → FVec Ideal S1x1x256 .f32) (h : Fin 4) (l : Fin 256) :
    (View.canon [⟨r0_35, p 3⟩, ⟨r0_33, p 2⟩, ⟨r0_31, p 1⟩, ⟨r0_1, p 0⟩] : Vec Ideal S1x4x256 .f32) (ix3 0 h l) = p h (ix3 0 0 l) := by
  have key : ∀ (k : Fin 4) (x : S1x1x256.Idx) (y : S1x4x256.Idx), (y 1).val = k.val + 1 * (x 1).val → (y 2).val = 0 + 1 * (x 2).val →
      p k x = p (y 1) (ix3 0 0 (y 2)) := by
    intro k x y h1 h2
    have hx : (x 1).val < 1 := (x 1).isLt
    have e1 : k = y 1 := Fin.ext (by omega)
    have e2 : x 2 = y 2 := Fin.ext (by omega)
    rw [← e1]
    exact (congrArg (p k) (row_idx x)).trans (congrArg (fun j : Fin 256 => p k (ix3 0 0 j)) e2)
  refine View.canon_apply_of_pieces (fun y : S1x4x256.Idx => p (y 1) (ix3 0 0 (y 2))) _ ?_ (ix3 0 h l) (cover0_11 (F := Ideal) _ _ _ _ _)
  intro pc hpc
  rcases List.mem_cons.mp hpc with rfl | hpc
  · exact fun x => key 3 x (r0_35.emb x) rfl rfl
  rcases List.mem_cons.mp hpc with rfl | hpc
  · exact fun x => key 2 x (r0_33.emb x) rfl rfl
  rcases List.mem_cons.mp hpc with rfl | hpc
  · exact fun x => key 1 x (r0_31.emb x) rfl rfl
  rcases List.mem_cons.mp hpc with rfl | hpc
  · exact fun x => key 0 x (r0_1.emb x) rfl rfl
  nomatch hpc

section Point

variable (m : (ℓ : Loc nD τ sig) → Buf (Elt Ideal) ℓ) (c : Dev nD) (t : Fin cfg0.N)

theorem tile_eq : tileStart (BitVec.ofNat 32 (grid0.coords t 1).val) = BitVec.ofNat 32 ((grid0.coords t 1).val % 2 * 256) :=
  tileStart_eq ⟨_, (coords_lt t).2.1⟩

variable {m c} (hA : (argsK m c).Finite)
include hA

theorem ne_topP (h : Fin 4) (l : Fin 256) (i : ℕ) (hi : i < 3072) :
    (blkP (x0 m c t) (x1 m c t) (x2 m c t) (x3 m c t) (x4 m c t) (x5 m c t) h l).t i ≠ ⊤ := by
  rw [blkP_eq]; exact hA.ne_topP _ _ i hi
theorem ne_topC (h : Fin 4) (l : Fin 256) (p i : ℕ) (hi : i < 512) :
    masked p (blkC (x0 m c t) (x1 m c t) (x6 m c t) (x7 m c t) (x8 m c t) (x9 m c t) h l).t i ≠ ⊤ := by
  rw [blkC_eq]; exact hA.ne_topC _ _ p i hi

theorem block10 (l : Fin 256) (h : Fin 4) (d : Fin 64) :
    out0_10 (grid0.coords t) (x0 m c t) (x1 m c t) (x2 m c t) (x3 m c t) (x4 m c t) (x5 m c t) (x6 m c t) (x7 m c t) (x8 m c t) (x9 m c t)
        (ix2 l ⟨h.val * 64 + d.val, by omega⟩) = outAt (argsK m c) (headN t h) (rowN t l) d := by
  rw [out10_eq, View.canon_unit_zero (by funext a; fin_cases a <;> rfl), tile_eq]
  refine (join_apply (fun h => headOut (BitVec.ofNat 32 ((grid0.coords t 1).val % 2 * 256)) (x0 m c t) (x1 m c t) (x2 m c t) (x3 m c t) (x4 m c t) (x5 m c t)
    (x6 m c t) (x7 m c t) (x8 m c t) (x9 m c t) h.val) l h d).trans ?_
  rw [headOut_apply _ _ _ _ _ _ _ _ _ _ h l (by omega) d (ne_topP t hA h l) (ne_topC t hA h l _), blkP_eq, blkC_eq, rowN_mod]
  exact hA.out_eq _ _ d

theorem block11 (h : Fin 4) (l : Fin 256) :
    out0_11 (grid0.coords t) (x0 m c t) (x1 m c t) (x2 m c t) (x3 m c t) (x4 m c t) (x5 m c t) (x6 m c t) (x7 m c t) (x8 m c t) (x9 m c t)
        (ix3 0 h l) = lsePAt (argsK m c) (headN t h) (rowN t l) := by
  rw [out11_eq]
  refine (rows_apply (fun h => headLP (x0 m c t) (x1 m c t) (x2 m c t) (x5 m c t) h.val) h l).trans ?_
  rw [headLP_apply _ _ _ (x3 m c t) (x4 m c t) _ h l (ne_topP t hA h l), blkP_eq]
  exact hA.lseP_eq _ _

theorem block12 (h : Fin 4) (l : Fin 256) :
    out0_12 (grid0.coords t) (x0 m c t) (x1 m c t) (x2 m c t) (x3 m c t) (x4 m c t) (x5 m c t) (x6 m c t) (x7 m c t) (x8 m c t) (x9 m c t)
        (ix3 0 h l) = lseCAt (argsK m c) (headN t h) (rowN t l) := by
  rw [out12_eq, tile_eq]
  refine (rows_apply (fun h => headLC (BitVec.ofNat 32 ((grid0.coords t 1).val % 2 * 256)) (x0 m c t) (x1 m c t) (x6 m c t) (x9 m c t) h.val) h l).trans ?_
  rw [headLC_apply _ _ _ (x7 m c t) (x8 m c t) _ h l (by omega) (ne_topC t hA h l _), blkC_eq, rowN_mod]
  exact hA.lseC_eq _ _

/-! The same at any index of the block. -/

theorem block10' (y : S256x256.Idx) :
    out0_10 (grid0.coords t) (x0 m c t) (x1 m c t) (x2 m c t) (x3 m c t) (x4 m c t) (x5 m c t) (x6 m c t) (x7 m c t) (x8 m c t) (x9 m c t) y
      = outAt (argsK m c) (headN t ⟨(y 1).val / 64, by have : (y 1).val < 256 := (y 1).isLt; omega⟩) (rowN t (y 0)) ⟨(y 1).val % 64, by omega⟩ := by
  have h1 : (y 1).val < 256 := (y 1).isLt
  have e : y = ix2 (y 0) (⟨(⟨(y 1).val / 64, by omega⟩ : Fin 4).val * 64 + (⟨(y 1).val % 64, by omega⟩ : Fin 64).val, by
      show (y 1).val / 64 * 64 + (y 1).val % 64 < 256; omega⟩ : Fin 256) :=
    (eq_ix2 (n0 := 256) (n1 := 256) y).trans (congrArg (fun k : Fin 256 => ix2 (y 0) k)
      (Fin.ext (by show (y 1).val = (y 1).val / 64 * 64 + (y 1).val % 64; omega)))
  exact (congrArg (out0_10 (grid0.coords t) (x0 m c t) (x1 m c t) (x2 m c t) (x3 m c t) (x4 m c t) (x5 m c t) (x6 m c t) (x7 m c t) (x8 m c t) (x9 m c t)) e).trans
    (block10 t hA _ _ _)

theorem block11' (y : S1x4x256.Idx) :
    out0_11 (grid0.coords t) (x0 m c t) (x1 m c t) (x2 m c t) (x3 m c t) (x4 m c t) (x5 m c t) (x6 m c t) (x7 m c t) (x8 m c t) (x9 m c t) y
      = lsePAt (argsK m c) (headN t (y 1)) (rowN t (y 2)) := by
  have e : y = ix3 0 (y 1) (y 2) :=
    (eq_ix3 (n0 := 1) (n1 := 4) (n2 := 256) y).trans (congrArg (fun k : Fin 1 => ix3 k (y 1) (y 2)) (Fin.fin_one_eq_zero _))
  exact (congrArg (out0_11 (grid0.coords t) (x0 m c t) (x1 m c t) (x2 m c t) (x3 m c t) (x4 m c t) (x5 m c t) (x6 m c t) (x7 m c t) (x8 m c t) (x9 m c t)) e).trans
    (block11 t hA _ _)

theorem block12' (y : S1x4x256.Idx) :
    out0_12 (grid0.coords t) (x0 m c t) (x1 m c t) (x2 m c t) (x3 m c t) (x4 m c t) (x5 m c t) (x6 m c t) (x7 m c t) (x8 m c t) (x9 m c t) y
      = lseCAt (argsK m c) (headN t (y 1)) (rowN t (y 2)) := by
  have e : y = ix3 0 (y 1) (y 2) :=
    (eq_ix3 (n0 := 1) (n1 := 4) (n2 := 256) y).trans (congrArg (fun k : Fin 1 => ix3 k (y 1) (y 2)) (Fin.fin_one_eq_zero _))
  exact (congrArg (out0_12 (grid0.coords t) (x0 m c t) (x1 m c t) (x2 m c t) (x3 m c t) (x4 m c t) (x5 m c t) (x6 m c t) (x7 m c t) (x8 m c t) (x9 m c t)) e).trans
    (block12 t hA _ _)

end Point

/-! ## The arrays -/

variable {m : (ℓ : Loc nD τ sig) → Buf (Elt Ideal) ℓ} {c : Dev nD} (hA : (argsK m c).Finite)
include hA

theorem arr10 : (dats m 0 c).arrAt 10 cfg0.N = resO (argsK m c) := by
  refine (dats m 0 c).arrAt_eq_of_covers 10 (resO (argsK m c)) (by decide +kernel) fun t hf y => ?_
  blk_simp
  rw [after0_10]
  refine (block10' t hA y).trans (resO_at _ _ _ _ _ ?_ ?_).symm
  · blk_simp [index10, rowN]
  · blk_simp [index10, headN]
    show ((grid0.coords t 0).val * 4 + (grid0.coords t 2).val) * 256 + (y 1).val
      = (((grid0.coords t 0).val * 4 + (grid0.coords t 2).val) * 4 + (y 1).val / 64) * 64 + (y 1).val % 64
    omega

theorem arr11 : (dats m 0 c).arrAt 11 cfg0.N = resP (argsK m c) := by
  refine (dats m 0 c).arrAt_eq_of_covers 11 (resP (argsK m c)) (by decide +kernel) fun t hf y => ?_
  blk_simp
  rw [after0_11]
  refine (block11' t hA y).trans (resP_at _ _ _ _ ?_ ?_).symm
  · blk_simp [index11, headN]
  · blk_simp [index11, rowN]

theorem arr12 : (dats m 0 c).arrAt 12 cfg0.N = resC (argsK m c) := by
  refine (dats m 0 c).arrAt_eq_of_covers 12 (resC (argsK m c)) (by decide +kernel) fun t hf y => ?_
  blk_simp
  rw [after0_12]
  refine (block12' t hA y).trans (resC_at _ _ _ _ ?_ ?_).symm
  · blk_simp [index12, headN]
  · blk_simp [index12, rowN]

end Cert.Att

end
-- ==== Proof.Att.Pre.lean ====
/- The precondition `finite`, read at one element at a time: what the run's arguments satisfy under it. -/
module

public import proofs.«01_k».proof.Defs
public import proofs.«01_k».proof.Proof.Att.KerArgs

@[expose] public section

noncomputable section

namespace Cert.Att

open Idealize.ShloMosaic Idealize.ShloMosaic.TcCoe

/-- The predicate's broadcasts of a scalar are well formed. -/
theorem preFacts : Cert.Pre_finite.Facts where
  bcast_S_S4x512x32x64 := by decide
  bcast_S_S4x512x32 := by decide
  bcast_S_S3072x2x64 := by decide
  bcast_S_S3072x2 := by decide
  bcast_S_S4x512x2x64 := by decide
  bcast_S_S4x512x2 := by decide

/-- The byte test. -/
theorem byte_test {b : BitVec 8} (h : (BitVec.ofBool (b != 127#8) &&& BitVec.ofBool (b != 255#8)) = 1#1) : ∃ r : ℝ, code b = (r : EReal) := by
  refine code_real ?_ ?_
  · rintro rfl
    exact absurd h (by decide)
  · rintro rfl
    exact absurd h (by decide)

/-- The scale test. -/
theorem scale_test {x : EReal} (h : (BitVec.ofBool (decide (max x (-x) < ⊤))) = 1#1) : ∃ r : ℝ, x = (r : EReal) := by
  refine real_of_abs_lt ?_
  by_contra hn
  rw [decide_eq_false hn] at h
  exact absurd h (by decide)

attribute [local instance] preFacts

/-- Under the precondition the arguments the scores are made of are real. -/
theorem finite_of_pre {m : (ℓ : Loc Cert.KernelIdeal.nD Cert.KernelIdeal.τ Cert.KernelIdeal.sig) → Buf (Elt Ideal) ℓ}
    (h : Cert.Pre_KernelIdeal_finite m) (c : Dev Cert.KernelIdeal.nD) : (argsK m c).Finite := by
  obtain ⟨h0, h1, h2, h3, h4, h5⟩ := h c
  exact ⟨fun i => byte_test (congrFun h0 i), fun i => scale_test (congrFun h1 i), fun i => byte_test (congrFun h2 i),
    fun i => scale_test (congrFun h3 i), fun i => byte_test (congrFun h4 i), fun i => scale_test (congrFun h5 i)⟩

end Cert.Att

end
-- ==== Proof.Att.RefArgs.lean ====
/- The arrays the reference's kernel reads, in terms of the arguments: every host operation before the call is a byte's reading
   as a float, a transpose, a reshape or a repetition along the query heads. -/
module

public import proofs.«01_k».proof.Proof.Att.Args
public import proofs.«01_k».proof.Proof.Gen.ReferenceIdeal.Frame

@[expose] public section

set_option maxRecDepth 16384

noncomputable section

namespace Cert.Att.Ref

open Cert.ReferenceIdeal Cert.ReferenceIdeal.Gen Idealize.ShloMosaic Idealize.ShloMosaic.TcCoe

/-- The reference's arguments. -/
def argsR (m : (ℓ : Loc nD τ sig) → Buf (Elt Ideal) ℓ) (c : Dev nD) : Args :=
  ⟨m (c, main_arg0), m (c, main_arg1), m (c, main_arg2), m (c, main_arg3), m (c, main_arg4), m (c, main_arg5), m (c, main_arg6), m (c, main_arg7),
    m (c, main_arg8), m (c, main_arg9)⟩

section Reads

variable (q : IVec S4x512x32x64 8) (qs : FVec Ideal S4x512x32 .f32) (pk : FVec Ideal S3072x2x64 .fp8e4m3) (ps : FVec Ideal S3072x2 .f32)
  (k : FVec Ideal S4x512x2x64 .fp8e4m3) (s : FVec Ideal S4x512x2 .f32)

/-- The queries, row by row of a head. -/
theorem readQ (n : Fin 32) (r : Fin 2048) (d : Fin 64) :
    transpose S32x2048x64 [1, 0, 2] (shapeCast S2048x32x64 (bitcastToFloat .fp8e4m3 q : FVec Ideal S4x512x32x64 .fp8e4m3) shapeCasts_S4x512x32x64_S2048x32x64)
        transposes_S2048x32x64_S32x2048x64_1_0_2 (ix3 n r d)
      = code (q (ix4 (batch r) (pos r) n d)) := by
  pointwise [batch, pos]
  rfl

theorem readQS (n : Fin 32) (r : Fin 2048) :
    broadcastInDim S32x2048x1 ![0, 1] bcast_S32x2048_S32x2048x1_0_1
        (transpose S32x2048 [1, 0] (shapeCast S2048x32 qs shapeCasts_S4x512x32_S2048x32) transposes_S2048x32_S32x2048_1_0) (ix3 n r 0)
      = qs (ix3 (batch r) (pos r) n) := by
  pointwise [batch, pos]

/-- The prompt's keys or values, repeated over the query heads. -/
theorem readP (n : Fin 32) (i : Fin 3072) (d : Fin 64) :
    shapeCast S32x3072x64 (broadcastInDim S2x16x3072x64 ![0, 1, 2, 3] bcast_S2x1x3072x64_S2x16x3072x64_0_1_2_3
        (broadcastInDim S2x1x3072x64 ![0, 2, 3] bcast_S2x3072x64_S2x1x3072x64_0_2_3 (transpose S2x3072x64 [1, 0, 2] pk transposes_S3072x2x64_S2x3072x64_1_0_2)))
        shapeCasts_S2x16x3072x64_S32x3072x64 (ix3 n i d)
      = pk (ix3 i (kvOf n) d) := by
  pointwise [kvOf]

theorem readPS (n : Fin 32) (i : Fin 3072) :
    broadcastInDim S32x1x3072 ![0, 2] bcast_S32x3072_S32x1x3072_0_2 (shapeCast S32x3072 (broadcastInDim S2x16x3072 ![0, 1, 2] bcast_S2x1x3072_S2x16x3072_0_1_2
        (broadcastInDim S2x1x3072 ![0, 2] bcast_S2x3072_S2x1x3072_0_2 (transpose S2x3072 [1, 0] ps transposes_S3072x2_S2x3072_1_0)))
        shapeCasts_S2x16x3072_S32x3072) (ix3 n 0 i)
      = ps (ix2 i (kvOf n)) := by
  pointwise [kvOf]

/-- The completion's keys or values, repeated over the query heads. -/
theorem readC (g : Fin 128) (i : Fin 512) (d : Fin 64) :
    shapeCast S128x512x64 (broadcastInDim S2x16x4x512x64 ![0, 1, 2, 3, 4] bcast_S2x1x4x512x64_S2x16x4x512x64_0_1_2_3_4
        (broadcastInDim S2x1x4x512x64 ![0, 2, 3, 4] bcast_S2x4x512x64_S2x1x4x512x64_0_2_3_4
          (transpose S2x4x512x64 [2, 0, 1, 3] k transposes_S4x512x2x64_S2x4x512x64_2_0_1_3)))
        shapeCasts_S2x16x4x512x64_S128x512x64 (ix3 g i d)
      = k (ix4 ⟨g.val % 4, by omega⟩ i ⟨g.val / 64, by omega⟩ d) := by
  pointwise

theorem readCS (g : Fin 128) (i : Fin 512) :
    broadcastInDim S128x1x512 ![0, 2] bcast_S128x512_S128x1x512_0_2 (shapeCast S128x512 (broadcastInDim S2x16x4x512 ![0, 1, 2, 3] bcast_S2x1x4x512_S2x16x4x512_0_1_2_3
        (broadcastInDim S2x1x4x512 ![0, 2, 3] bcast_S2x4x512_S2x1x4x512_0_2_3 (transpose S2x4x512 [2, 0, 1] s transposes_S4x512x2_S2x4x512_2_0_1)))
        shapeCasts_S2x16x4x512_S128x512) (ix3 g 0 i)
      = s (ix3 ⟨g.val % 4, by omega⟩ i ⟨g.val / 64, by omega⟩) := by
  pointwise

end Reads

variable (m : (ℓ : Loc nD τ sig) → Buf (Elt Ideal) ℓ) (c : Dev nD)

theorem V4 (n : Fin 32) (r : Fin 2048) (d : Fin 64) : V m c main_v4 (ix3 n r d) = code ((argsR m c).q (ix4 (batch r) (pos r) n d)) := by
  refine .trans (congrFun (?_ : StableHlo.after (hostOps0 (F := Ideal)) (fun b => m (c, b)) (Proc.devRef .tc main_v4) = _) _) (readQ (argsR m c).q n r d)
  after_results
  rfl

theorem V7 (n : Fin 32) (r : Fin 2048) : V m c main_v7 (ix3 n r 0) = (argsR m c).qs (ix3 (batch r) (pos r) n) := by
  refine .trans (congrFun (?_ : StableHlo.after (hostOps0 (F := Ideal)) (fun b => m (c, b)) (Proc.devRef .tc main_v7) = _) _) (readQS (argsR m c).qs n r)
  after_results
  rfl

theorem V11 (n : Fin 32) (i : Fin 3072) (d : Fin 64) : V m c main_v11 (ix3 n i d) = code ((argsR m c).pk (ix3 i (kvOf n) d)) := by
  refine .trans (congrFun (?_ : StableHlo.after (hostOps0 (F := Ideal)) (fun b => m (c, b)) (Proc.devRef .tc main_v11) = _) _) (readP (bitcastToFloat .fp8e4m3 (argsR m c).pk : FVec Ideal S3072x2x64 .fp8e4m3) n i d)
  after_results
  rfl

theorem V16 (n : Fin 32) (i : Fin 3072) : V m c main_v16 (ix3 n 0 i) = (argsR m c).pks (ix2 i (kvOf n)) := by
  refine .trans (congrFun (?_ : StableHlo.after (hostOps0 (F := Ideal)) (fun b => m (c, b)) (Proc.devRef .tc main_v16) = _) _) (readPS (argsR m c).pks n i)
  after_results
  rfl

theorem V20 (n : Fin 32) (i : Fin 3072) (d : Fin 64) : V m c main_v20 (ix3 n i d) = (argsR m c).pv (ix3 i (kvOf n) d) := by
  refine .trans (congrFun (?_ : StableHlo.after (hostOps0 (F := Ideal)) (fun b => m (c, b)) (Proc.devRef .tc main_v20) = _) _) (readP (argsR m c).pv n i d)
  after_results
  rfl

theorem V25 (n : Fin 32) (i : Fin 3072) : V m c main_v25 (ix3 n 0 i) = (argsR m c).pvs (ix2 i (kvOf n)) := by
  refine .trans (congrFun (?_ : StableHlo.after (hostOps0 (F := Ideal)) (fun b => m (c, b)) (Proc.devRef .tc main_v25) = _) _) (readPS (argsR m c).pvs n i)
  after_results
  rfl

theorem V29 (g : Fin 128) (i : Fin 512) (d : Fin 64) : V m c main_v29 (ix3 g i d) = code ((argsR m c).k (ix4 ⟨g.val % 4, by omega⟩ i ⟨g.val / 64, by omega⟩ d)) := by
  refine .trans (congrFun (?_ : StableHlo.after (hostOps0 (F := Ideal)) (fun b => m (c, b)) (Proc.devRef .tc main_v29) = _) _) (readC (bitcastToFloat .fp8e4m3 (argsR m c).k : FVec Ideal S4x512x2x64 .fp8e4m3) g i d)
  after_results
  rfl

theorem V34 (g : Fin 128) (i : Fin 512) : V m c main_v34 (ix3 g 0 i) = (argsR m c).ks (ix3 ⟨g.val % 4, by omega⟩ i ⟨g.val / 64, by omega⟩) := by
  refine .trans (congrFun (?_ : StableHlo.after (hostOps0 (F := Ideal)) (fun b => m (c, b)) (Proc.devRef .tc main_v34) = _) _) (readCS (argsR m c).ks g i)
  after_results
  rfl

theorem V38 (g : Fin 128) (i : Fin 512) (d : Fin 64) : V m c main_v38 (ix3 g i d) = (argsR m c).v (ix4 ⟨g.val % 4, by omega⟩ i ⟨g.val / 64, by omega⟩ d) := by
  refine .trans (congrFun (?_ : StableHlo.after (hostOps0 (F := Ideal)) (fun b => m (c, b)) (Proc.devRef .tc main_v38) = _) _) (readC (argsR m c).v g i d)
  after_results
  rfl

theorem V43 (g : Fin 128) (i : Fin 512) : V m c main_v43 (ix3 g 0 i) = (argsR m c).vs (ix3 ⟨g.val % 4, by omega⟩ i ⟨g.val / 64, by omega⟩) := by
  refine .trans (congrFun (?_ : StableHlo.after (hostOps0 (F := Ideal)) (fun b => m (c, b)) (Proc.devRef .tc main_v43) = _) _) (readCS (argsR m c).vs g i)
  after_results
  rfl

end Cert.Att.Ref

end
-- ==== Proof.Att.RefRead.lean ====
/- The reference's values read at an index, over the extended reals: its scores, softmaxes and log-sum-exps are those of
   `Spec.lean` on the columns `refP` (prompt) and `refC` (completion) of its operands. -/
module

public import proofs.«01_k».proof.Proof.Gen.ReferenceIdeal.Frame
public import proofs.«01_k».proof.Proof.Att.Spec
public import Idealize.ShloMosaic.Lib.Pointwise

@[expose] public section

set_option maxRecDepth 16384

noncomputable section

namespace Cert.Att.Ref

open Cert.ReferenceIdeal Cert.ReferenceIdeal.Gen Idealize.ShloMosaic

/-- The softmax scale. -/
theorem ofBits_scale : Ideal.ofBits .f32 0x3E000000#32 = (((8 : ℝ)⁻¹ : ℝ) : EReal) := by
  simp [Ideal.ofBits, Ideal.ieee, -EReal.coe_mul]; norm_num

variable (x0 : Vec Ideal S32x2048x64 .fp8e4m3) (x1 : Vec Ideal S32x2048x1 .f32) (x2 : Vec Ideal S32x3072x64 .fp8e4m3) (x3 : Vec Ideal S32x1x3072 .f32)
  (x4 : Vec Ideal S32x3072x64 .fp8e4m3) (x5 : Vec Ideal S32x1x3072 .f32) (x6 : Vec Ideal S128x512x64 .fp8e4m3) (x7 : Vec Ideal S128x1x512 .f32)
  (x8 : Vec Ideal S128x512x64 .fp8e4m3) (x9 : Vec Ideal S128x1x512 .f32)

/-- Row `r` of head `n` over the prompt. -/
def refP (n : Fin 32) (r : Fin 2048) : Col where
  q d := x0 (ix3 n r d)
  qs := x1 (ix3 n r 0)
  k i d := x2 (ix3 n (Fin.ofNat 3072 i) d)
  ks i := x3 (ix3 n 0 (Fin.ofNat 3072 i))
  v i d := x4 (ix3 n (Fin.ofNat 3072 i) d)
  vs i := x5 (ix3 n 0 (Fin.ofNat 3072 i))

/-- The row of the head's 2048 at position `s` of sequence `g % 4`. -/
def rowOf (g : Fin 128) (s : Fin 512) : Fin 2048 := ⟨g.val % 4 * 512 + s.val, by omega⟩
/-- The head of `g`. -/
def headOf (g : Fin 128) : Fin 32 := ⟨g.val / 4, by omega⟩

/-- Position `s` of head and sequence `g` over its completion. -/
def refC (g : Fin 128) (s : Fin 512) : Col where
  q d := x0 (ix3 (headOf g) (rowOf g s) d)
  qs := x1 (ix3 (headOf g) (rowOf g s) 0)
  k i d := x6 (ix3 g (Fin.ofNat 512 i) d)
  ks i := x7 (ix3 g 0 (Fin.ofNat 512 i))
  v i d := x8 (ix3 g (Fin.ofNat 512 i) d)
  vs i := x9 (ix3 g 0 (Fin.ofNat 512 i))

theorem ofNat_val {k : ℕ} [NeZero k] (i : Fin k) : Fin.ofNat k i.val = i := Fin.ext (Nat.mod_eq_of_lt i.isLt)

/-- A log-sum-exp from its maximum and its sum. -/
theorem lse_read {s : Shape} (a b : FVec Ideal s .f32) (j : s.Idx) : addf a (log b) j = a j + Ideal.log (b j) := rfl

/-! ## The prompt -/

theorem pay6_apply (n : Fin 32) (r : Fin 2048) (i : Fin 3072) : k0_pay6 x0 x1 x2 x3 (ix3 n r i) = (refP x0 x1 x2 x3 x4 x5 n r).s i := by
  simp only [Col.s, refP, ofNat_val]
  pointwise [k0_pay6, k0_pay4, k0_pay5]
  rw [ofBits_scale]

theorem pay7_apply (n : Fin 32) (r : Fin 2048) : k0_pay7 x0 x1 x2 x3 (ix3 n r 0) = (Finset.range 3072).sup (refP x0 x1 x2 x3 x4 x5 n r).s := by
  rw [← fold_max_eq 3072]
  simp only [← pay6_apply x0 x1 x2 x3 x4 x5 n r]
  pointwise [k0_pay7]
  rfl

theorem pay8_apply (n : Fin 32) (r : Fin 2048) (i : Fin 3072) : k0_pay8 x0 x1 x2 x3 (ix3 n r i)
    = Ideal.exp ((refP x0 x1 x2 x3 x4 x5 n r).s i - (Finset.range 3072).sup (refP x0 x1 x2 x3 x4 x5 n r).s) := by
  rw [← pay7_apply, ← pay6_apply]
  pointwise [k0_pay8]

theorem pay9_apply (n : Fin 32) (r : Fin 2048) : k0_pay9 x0 x1 x2 x3 (ix3 n r 0) = sumExp (refP x0 x1 x2 x3 x4 x5 n r).s 3072 := by
  rw [sumExp, Finset.sum_range]
  simp only [← pay8_apply x0 x1 x2 x3 x4 x5 n r]
  pointwise [k0_pay9]

theorem pay10_apply (n : Fin 32) (r : Fin 2048) (d : Fin 64) : k0_pay10 x0 x1 x2 x3 x4 x5 (ix3 n r d)
    = softmax (refP x0 x1 x2 x3 x4 x5 n r).s (refP x0 x1 x2 x3 x4 x5 n r).vs (fun i => (refP x0 x1 x2 x3 x4 x5 n r).v i d) 3072 := by
  rw [softmax, ← pay9_apply, Finset.sum_range]
  simp only [← pay8_apply x0 x1 x2 x3 x4 x5 n r]
  simp only [refP, ofNat_val]
  pointwise [k0_pay10]

theorem pay11_apply (n : Fin 32) (r : Fin 2048) : k0_pay11 x0 x1 x2 x3 (ix3 n r 0) = lseE (refP x0 x1 x2 x3 x4 x5 n r).s 3072 := by
  rw [lseE, ← pay9_apply x0 x1 x2 x3 x4 x5 n r, ← pay7_apply x0 x1 x2 x3 x4 x5 n r]
  exact lse_read _ _ _

/-! ## The completion -/

/-- The key's and the query's position, as the mask compares them. -/
def keyPos : IVec S128x512x512 32 := iota .tc S128x512x512 32 [2] iota_S128x512x512_d2_w32
def queryPos : IVec S128x512x512 32 := iota .tc S128x512x512 32 [1] iota_S128x512x512_d1_w32

theorem sle_small {a b : ℕ} (ha : a < 512) (hb : b < 512) : IntOp.cmpi .sle (BitVec.ofNat 32 a) (BitVec.ofNat 32 b) = BitVec.ofBool (decide (a ≤ b)) := by
  show BitVec.ofBool ((BitVec.ofNat 32 a).sle (BitVec.ofNat 32 b)) = _
  rw [BitVec.sle, BitVec.toInt_eq_toNat_of_lt (by rw [BitVec.toNat_ofNat]; omega), BitVec.toInt_eq_toNat_of_lt (by rw [BitVec.toNat_ofNat]; omega),
    BitVec.toNat_ofNat, BitVec.toNat_ofNat]
  exact congrArg _ (decide_eq_decide.2 (by omega))

theorem pay12_apply (g : Fin 128) (s i : Fin 512) : k0_pay12 x0 x1 keyPos queryPos x6 x7 (ix3 g s i) = masked s.val (refC x0 x1 x6 x7 x8 x9 g s).s i := by
  simp only [masked, Col.s, refC, ofNat_val, headOf, rowOf]
  pointwise [k0_pay12, keyPos, queryPos]
  rw [ofBits_scale, sle_small i.isLt s.isLt]
  by_cases h : i.val ≤ s.val
  · rw [if_pos h, decide_eq_true h]; rfl
  · rw [if_neg h, decide_eq_false h]; rfl

theorem pay13_apply (g : Fin 128) (s : Fin 512) : k0_pay13 x0 x1 keyPos queryPos x6 x7 (ix3 g s 0)
    = (Finset.range 512).sup (masked s.val (refC x0 x1 x6 x7 x8 x9 g s).s) := by
  rw [← fold_max_eq 512]
  simp only [← pay12_apply x0 x1 x6 x7 x8 x9 g s]
  pointwise [k0_pay13]
  rfl

theorem pay14_apply (g : Fin 128) (s i : Fin 512) : k0_pay14 x0 x1 keyPos queryPos x6 x7 (ix3 g s i)
    = Ideal.exp (masked s.val (refC x0 x1 x6 x7 x8 x9 g s).s i - (Finset.range 512).sup (masked s.val (refC x0 x1 x6 x7 x8 x9 g s).s)) := by
  rw [← pay13_apply, ← pay12_apply]
  pointwise [k0_pay14]

theorem pay15_apply (g : Fin 128) (s : Fin 512) : k0_pay15 x0 x1 keyPos queryPos x6 x7 (ix3 g s 0) = sumExp (masked s.val (refC x0 x1 x6 x7 x8 x9 g s).s) 512 := by
  rw [sumExp, Finset.sum_range]
  simp only [← pay14_apply x0 x1 x6 x7 x8 x9 g s]
  pointwise [k0_pay15]

theorem pay16_apply (g : Fin 128) (s : Fin 512) : k0_pay16 x0 x1 keyPos queryPos x6 x7 (ix3 g s 0) = lseE (masked s.val (refC x0 x1 x6 x7 x8 x9 g s).s) 512 := by
  rw [lseE, ← pay15_apply x0 x1 x6 x7 x8 x9 g s, ← pay13_apply x0 x1 x6 x7 x8 x9 g s]
  exact lse_read _ _ _

/-- Head `n` and the sequence of its row `r`. -/
def seqOf (n : Fin 32) (r : Fin 2048) : Fin 128 := ⟨n.val * 4 + r.val / 512, by omega⟩
/-- The position of row `r` in its sequence. -/
def posOf (r : Fin 2048) : Fin 512 := ⟨r.val % 512, by omega⟩

theorem pay17_apply (n : Fin 32) (r : Fin 2048) (d : Fin 64) : k0_pay17 x0 x1 keyPos queryPos x6 x7 x8 x9 (ix3 n r d)
    = softmax (masked (r.val % 512) (refC x0 x1 x6 x7 x8 x9 (seqOf n r) (posOf r)).s) (refC x0 x1 x6 x7 x8 x9 (seqOf n r) (posOf r)).vs
        (fun i => (refC x0 x1 x6 x7 x8 x9 (seqOf n r) (posOf r)).v i d) 512 := by
  show _ = softmax (masked (posOf r).val _) _ _ _
  rw [softmax, ← pay15_apply, Finset.sum_range]
  simp only [← pay14_apply x0 x1 x6 x7 x8 x9 (seqOf n r) (posOf r)]
  simp only [refC, ofNat_val]
  pointwise [k0_pay17, seqOf, posOf]

theorem pay18_apply (g : Fin 128) (s : Fin 512) : (k0_pay18 : FVec Ideal S128x512x1 .f32) (ix3 g s 0) = (((s.val + 1 : ℕ) : ℝ) : EReal) := by
  have hs := s.isLt
  have e : (BitVec.ofNat 32 s.val + 1#32).toInt = ((s.val + 1 : ℕ) : ℤ) := by
    rw [show (1#32 : BitVec 32) = BitVec.ofNat 32 1 from rfl, ← BitVec.ofNat_add,
      BitVec.toInt_eq_toNat_of_lt (by rw [BitVec.toNat_ofNat]; omega), BitVec.toNat_ofNat, Nat.mod_eq_of_lt (by omega)]
  pointwise [k0_pay18]
  show (((BitVec.ofNat 32 s.val + 1#32).toInt : ℝ) : EReal) = _
  rw [e]; norm_cast

/-! ## The results -/

theorem pay1_apply (a b : FVec Ideal S32x2048x64 .f32) (e : FVec Ideal S32x2048x1 .f32) (f : FVec Ideal S128x512x1 .f32) (r : Fin 2048) (n : Fin 32) (d : Fin 64) :
    k0_pay1 a e f b (ix2 r ⟨n.val * 64 + d.val, by omega⟩) = mergeE (a (ix3 n r d)) (e (ix3 n r 0)) (b (ix3 n r d)) (f (ix3 (seqOf n r) (posOf r) 0)) := by
  have h1 : (⟨(n.val * 64 + d.val) / 64, by omega⟩ : Fin 32) = n := Fin.ext (by show (n.val * 64 + d.val) / 64 = n.val; omega)
  have h2 : (⟨(n.val * 64 + d.val) % 64, by omega⟩ : Fin 64) = d := Fin.ext (by show (n.val * 64 + d.val) % 64 = d.val; omega)
  pointwise [k0_pay1, mergeE, logaddexp, seqOf, posOf, h1, h2]
  rfl

theorem pay2_apply (e : FVec Ideal S32x2048x1 .f32) (k : Fin 8) (g : Fin 4) (r : Fin 2048) :
    k0_pay2 e (ix3 k g r) = e (ix3 ⟨k.val * 4 + g.val, by omega⟩ r 0) - Ideal.ofBits .f32 0x41007B39#32 := by
  pointwise [k0_pay2]

theorem pay3_apply (f : FVec Ideal S128x512x1 .f32) (k : Fin 8) (g : Fin 4) (r : Fin 2048) :
    k0_pay3 f k0_pay18 (ix3 k g r) = f (ix3 (seqOf ⟨k.val * 4 + g.val, by omega⟩ r) (posOf r) 0) - Ideal.log (((r.val % 512 + 1 : ℕ) : ℝ) : EReal) := by
  have h := pay18_apply (seqOf ⟨k.val * 4 + g.val, by omega⟩ r) (posOf r)
  rw [show ((r.val % 512 + 1 : ℕ) : ℝ) = (((posOf r).val + 1 : ℕ) : ℝ) from rfl, ← h]
  generalize (k0_pay18 : FVec Ideal S128x512x1 .f32) = P
  have hs : seqOf ⟨k.val * 4 + g.val, by omega⟩ r = ⟨k.val * 16 + g.val * 4 + r.val / 512, by have := k.isLt; have := g.isLt; have := r.isLt; omega⟩ :=
    Fin.ext (by show (k.val * 4 + g.val) * 4 + r.val / 512 = k.val * 16 + g.val * 4 + r.val / 512; omega)
  rw [hs]
  pointwise [k0_pay3, posOf]

end Cert.Att.Ref

end
-- ==== Proof.Att.RefOut.lean ====
/- The reference's result arrays: its one grid point's operands are the arrays of `RefArgs.lean`, its results those of
   `RefRead.lean`, and both columns are the arguments' own. -/
module

public import proofs.«01_k».proof.Proof.Att.RefArgs
public import proofs.«01_k».proof.Proof.Att.RefRead
public import proofs.«01_k».proof.Proof.Att.Results
public import Idealize.ShloMosaic.Lib.Pipeline.ValueKit.Geometry

@[expose] public section

set_option maxRecDepth 16384

noncomputable section

namespace Cert.Att.Ref

open Cert.ReferenceIdeal Cert.ReferenceIdeal.Gen Idealize.ShloMosaic Idealize.ShloMosaic.TcCoe

/-! ## The body's results over whole operands -/

section Out

variable (x0 : Vec Ideal S32x2048x64 .fp8e4m3) (x1 : Vec Ideal S32x2048x1 .f32) (x2 : Vec Ideal S32x3072x64 .fp8e4m3) (x3 : Vec Ideal S32x1x3072 .f32)
  (x4 : Vec Ideal S32x3072x64 .fp8e4m3) (x5 : Vec Ideal S32x1x3072 .f32) (x6 : Vec Ideal S128x512x64 .fp8e4m3) (x7 : Vec Ideal S128x1x512 .f32)
  (x8 : Vec Ideal S128x512x64 .fp8e4m3) (x9 : Vec Ideal S128x1x512 .f32)

theorem zero3 : (![0, 0, 0] : Fin 3 → ℕ) = fun _ => 0 := by funext a; fin_cases a <;> rfl
theorem zero2 : (![0, 0] : Fin 2 → ℕ) = fun _ => 0 := by funext a; fin_cases a <;> rfl

theorem ld0 : View.ld x0 r0_0 = x0 := View.ld_unit_zero (S := S32x2048x64) zero3 _ x0
theorem ld1 : View.ld x1 r0_1 = x1 := View.ld_unit_zero (S := S32x2048x1) zero3 _ x1
theorem ld2 : View.ld x2 r0_2 = x2 := View.ld_unit_zero (S := S32x3072x64) zero3 _ x2
theorem ld3 : View.ld x3 r0_3 = x3 := View.ld_unit_zero (S := S32x1x3072) zero3 _ x3
theorem ld6 : View.ld x6 r0_4 = x6 := View.ld_unit_zero (S := S128x512x64) zero3 _ x6
theorem ld7 : View.ld x7 r0_5 = x7 := View.ld_unit_zero (S := S128x1x512) zero3 _ x7

theorem pay4_eq : k0_pay4 x0 = x0 := by
  funext y
  rw [eq_ix3 (n0 := 32) (n1 := 2048) (n2 := 64) y]
  pointwise [k0_pay4]
theorem pay5_eq : k0_pay5 x1 = x1 := by
  funext y
  rw [eq_ix3 (n0 := 32) (n1 := 2048) (n2 := 1) y]
  pointwise [k0_pay5]

theorem pay23_eq : k0_pay23 x0 x1 x2 x3 x4 x5 x6 x7 x8 x9 = k0_pay11 x0 x1 x2 x3 := by rw [k0_pay23, ld0, ld1, ld2, ld3]
theorem pay24_eq : k0_pay24 x0 x1 x2 x3 x4 x5 x6 x7 x8 x9 = k0_pay16 x0 x1 keyPos queryPos x6 x7 := by
  rw [k0_pay24, k0_pay21, k0_pay22, k0_pay19, k0_pay20, ld0, ld1, ld6, ld7, pay4_eq, pay5_eq, keyPos, queryPos]

theorem out10_apply (n : Fin 32) (r : Fin 2048) (d : Fin 64) : out0_10 x0 x1 x2 x3 x4 x5 x6 x7 x8 x9 (ix2 r ⟨n.val * 64 + d.val, by omega⟩)
    = outE (refP x0 x1 x2 x3 x4 x5 n r).s (refP x0 x1 x2 x3 x4 x5 n r).vs (fun i => (refP x0 x1 x2 x3 x4 x5 n r).v i d) 3072
        (masked (r.val % 512) (refC x0 x1 x6 x7 x8 x9 (seqOf n r) (posOf r)).s) (refC x0 x1 x6 x7 x8 x9 (seqOf n r) (posOf r)).vs
        (fun i => (refC x0 x1 x6 x7 x8 x9 (seqOf n r) (posOf r)).v i d) 512 := by
  rw [out0_10, View.canon_unit_zero zero2, pay23_eq, pay24_eq, k0_pay21, k0_pay22, k0_pay19, k0_pay20, ld0, ld1, ld2, ld3, ld2, ld3, ld6, ld7, ld6, ld7, pay4_eq, pay5_eq,
    ← keyPos, ← queryPos, pay1_apply, pay10_apply, pay11_apply x0 x1 x2 x3 x4 x5, pay17_apply, pay16_apply x0 x1 x6 x7 x8 x9, outE]
  rfl

theorem out11_apply (k : Fin 8) (g : Fin 4) (r : Fin 2048) : out0_11 x0 x1 x2 x3 x4 x5 x6 x7 x8 x9 (ix3 k g r)
    = lseE (refP x0 x1 x2 x3 x4 x5 ⟨k.val * 4 + g.val, by omega⟩ r).s 3072 - Ideal.ofBits .f32 0x41007B39#32 := by
  rw [out0_11, View.canon_unit_zero zero3, pay23_eq, pay2_apply, pay11_apply x0 x1 x2 x3 x4 x5]

theorem out12_apply (k : Fin 8) (g : Fin 4) (r : Fin 2048) : out0_12 x0 x1 x2 x3 x4 x5 x6 x7 x8 x9 (ix3 k g r)
    = lseE (masked (r.val % 512) (refC x0 x1 x6 x7 x8 x9 (seqOf ⟨k.val * 4 + g.val, by omega⟩ r) (posOf r)).s) 512
        - Ideal.log (((r.val % 512 + 1 : ℕ) : ℝ) : EReal) := by
  rw [out0_12, View.canon_unit_zero zero3, pay24_eq, pay3_apply, pay16_apply x0 x1 x6 x7 x8 x9]
  rfl

end Out

/-! ## The operands -/

theorem index0 : ∀ t : Fin cfg0.N, win0_0.index t = ![0, 0, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![0, 0, 0] := (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![0, 0, 0] := (by decide +kernel : ∀ t : Fin grid0.N, _)
theorem index5 : ∀ t : Fin cfg0.N, win0_5.index t = ![0, 0, 0] := (by decide +kernel : ∀ t : Fin grid0.N, _)
theorem index6 : ∀ t : Fin cfg0.N, win0_6.index t = ![0, 0, 0] := (by decide +kernel : ∀ t : Fin grid0.N, _)
theorem index7 : ∀ t : Fin cfg0.N, win0_7.index t = ![0, 0, 0] := (by decide +kernel : ∀ t : Fin grid0.N, _)
theorem index8 : ∀ t : Fin cfg0.N, win0_8.index t = ![0, 0, 0] := (by decide +kernel : ∀ t : Fin grid0.N, _)
theorem index9 : ∀ t : Fin cfg0.N, win0_9.index t = ![0, 0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0, 0] := (by decide +kernel : ∀ t : Fin grid0.N, _)
theorem index12 : ∀ t : Fin cfg0.N, win0_12.index t = ![0, 0, 0] := (by decide +kernel : ∀ t : Fin grid0.N, _)

/-- The row's head, and the row, from its head and sequence and its position. -/
theorem headOf_seqOf (n : Fin 32) (r : Fin 2048) : headOf (seqOf n r) = n :=
  Fin.ext (by have := r.isLt; show (n.val * 4 + r.val / 512) / 4 = n.val; omega)
theorem rowOf_seqOf (n : Fin 32) (r : Fin 2048) : rowOf (seqOf n r) (posOf r) = r :=
  Fin.ext (by have := r.isLt; show (n.val * 4 + r.val / 512) % 4 * 512 + r.val % 512 = r.val; omega)
theorem batch_seqOf (n : Fin 32) (r : Fin 2048) : (⟨(seqOf n r).val % 4, by omega⟩ : Fin 4) = batch r :=
  Fin.ext (by have := r.isLt; show (n.val * 4 + r.val / 512) % 4 = r.val / 512; omega)
theorem kv_seqOf (n : Fin 32) (r : Fin 2048) : (⟨(seqOf n r).val / 64, by omega⟩ : Fin 2) = kvOf n :=
  Fin.ext (by have := r.isLt; show (n.val * 4 + r.val / 512) / 64 = n.val / 16; omega)

variable (m : (ℓ : Loc nD τ sig) → Buf (Elt Ideal) ℓ) (c : Dev nD) (t : Fin cfg0.N)

/-- The operands the point reads. -/
abbrev y0 : Vec Ideal S32x2048x64 .fp8e4m3 := iblk m c 0 t
abbrev y1 : Vec Ideal S32x2048x1 .f32 := iblk m c 1 t
abbrev y2 : Vec Ideal S32x3072x64 .fp8e4m3 := iblk m c 2 t
abbrev y3 : Vec Ideal S32x1x3072 .f32 := iblk m c 3 t
abbrev y4 : Vec Ideal S32x3072x64 .fp8e4m3 := iblk m c 4 t
abbrev y5 : Vec Ideal S32x1x3072 .f32 := iblk m c 5 t
abbrev y6 : Vec Ideal S128x512x64 .fp8e4m3 := iblk m c 6 t
abbrev y7 : Vec Ideal S128x1x512 .f32 := iblk m c 7 t
abbrev y8 : Vec Ideal S128x512x64 .fp8e4m3 := iblk m c 8 t
abbrev y9 : Vec Ideal S128x1x512 .f32 := iblk m c 9 t

theorem y0_apply (n : Fin 32) (r : Fin 2048) (d : Fin 64) : y0 m c t (ix3 n r d) = code ((argsR m c).q (ix4 (batch r) (pos r) n d)) := by
  have e : (win0_0.blk t).view.emb (ix3 n r d) = ix3 n r d := by blk_ext [index0]
  exact (congrArg (V m c main_v4) e).trans (V4 m c n r d)
theorem y1_apply (n : Fin 32) (r : Fin 2048) : y1 m c t (ix3 n r 0) = (argsR m c).qs (ix3 (batch r) (pos r) n) := by
  have e : (win0_1.blk t).view.emb (ix3 n r 0) = ix3 n r 0 := by blk_ext [index1]
  exact (congrArg (V m c main_v7) e).trans (V7 m c n r)
theorem y2_apply (n : Fin 32) (i : Fin 3072) (d : Fin 64) : y2 m c t (ix3 n i d) = code ((argsR m c).pk (ix3 i (kvOf n) d)) := by
  have e : (win0_2.blk t).view.emb (ix3 n i d) = ix3 n i d := by blk_ext [index2]
  exact (congrArg (V m c main_v11) e).trans (V11 m c n i d)
theorem y3_apply (n : Fin 32) (i : Fin 3072) : y3 m c t (ix3 n 0 i) = (argsR m c).pks (ix2 i (kvOf n)) := by
  have e : (win0_3.blk t).view.emb (ix3 n 0 i) = ix3 n 0 i := by blk_ext [index3]
  exact (congrArg (V m c main_v16) e).trans (V16 m c n i)
theorem y4_apply (n : Fin 32) (i : Fin 3072) (d : Fin 64) : y4 m c t (ix3 n i d) = (argsR m c).pv (ix3 i (kvOf n) d) := by
  have e : (win0_4.blk t).view.emb (ix3 n i d) = ix3 n i d := by blk_ext [index4]
  exact (congrArg (V m c main_v20) e).trans (V20 m c n i d)
theorem y5_apply (n : Fin 32) (i : Fin 3072) : y5 m c t (ix3 n 0 i) = (argsR m c).pvs (ix2 i (kvOf n)) := by
  have e : (win0_5.blk t).view.emb (ix3 n 0 i) = ix3 n 0 i := by blk_ext [index5]
  exact (congrArg (V m c main_v25) e).trans (V25 m c n i)
theorem y6_apply (g : Fin 128) (i : Fin 512) (d : Fin 64) : y6 m c t (ix3 g i d) = code ((argsR m c).k (ix4 ⟨g.val % 4, by omega⟩ i ⟨g.val / 64, by omega⟩ d)) := by
  have e : (win0_6.blk t).view.emb (ix3 g i d) = ix3 g i d := by blk_ext [index6]
  exact (congrArg (V m c main_v29) e).trans (V29 m c g i d)
theorem y7_apply (g : Fin 128) (i : Fin 512) : y7 m c t (ix3 g 0 i) = (argsR m c).ks (ix3 ⟨g.val % 4, by omega⟩ i ⟨g.val / 64, by omega⟩) := by
  have e : (win0_7.blk t).view.emb (ix3 g 0 i) = ix3 g 0 i := by blk_ext [index7]
  exact (congrArg (V m c main_v34) e).trans (V34 m c g i)
theorem y8_apply (g : Fin 128) (i : Fin 512) (d : Fin 64) : y8 m c t (ix3 g i d) = (argsR m c).v (ix4 ⟨g.val % 4, by omega⟩ i ⟨g.val / 64, by omega⟩ d) := by
  have e : (win0_8.blk t).view.emb (ix3 g i d) = ix3 g i d := by blk_ext [index8]
  exact (congrArg (V m c main_v38) e).trans (V38 m c g i d)
theorem y9_apply (g : Fin 128) (i : Fin 512) : y9 m c t (ix3 g 0 i) = (argsR m c).vs (ix3 ⟨g.val % 4, by omega⟩ i ⟨g.val / 64, by omega⟩) := by
  have e : (win0_9.blk t).view.emb (ix3 g 0 i) = ix3 g 0 i := by blk_ext [index9]
  exact (congrArg (V m c main_v43) e).trans (V43 m c g i)

theorem refP_eq (n : Fin 32) (r : Fin 2048) : refP (y0 m c t) (y1 m c t) (y2 m c t) (y3 m c t) (y4 m c t) (y5 m c t) n r = colP (argsR m c) n r := by
  simp only [refP, colP, y0_apply, y1_apply, y2_apply, y3_apply, y4_apply, y5_apply]

theorem refC_eq (n : Fin 32) (r : Fin 2048) : refC (y0 m c t) (y1 m c t) (y6 m c t) (y7 m c t) (y8 m c t) (y9 m c t) (seqOf n r) (posOf r) = colC (argsR m c) n r := by
  simp only [refC, colC, headOf_seqOf, rowOf_seqOf, y0_apply, y1_apply, y6_apply, y7_apply, y8_apply, y9_apply, batch_seqOf, kv_seqOf]

/-! ## The results at any index -/

theorem out10_col (n : Fin 32) (r : Fin 2048) (d : Fin 64) : out0_10 (y0 m c t) (y1 m c t) (y2 m c t) (y3 m c t) (y4 m c t) (y5 m c t) (y6 m c t) (y7 m c t) (y8 m c t) (y9 m c t) (ix2 r ⟨n.val * 64 + d.val, by omega⟩) = outAt (argsR m c) n r d := by
  rw [out10_apply, refP_eq, refC_eq, outAt]
theorem out11_col (k : Fin 8) (g : Fin 4) (r : Fin 2048) : out0_11 (y0 m c t) (y1 m c t) (y2 m c t) (y3 m c t) (y4 m c t) (y5 m c t) (y6 m c t) (y7 m c t) (y8 m c t) (y9 m c t) (ix3 k g r) = lsePAt (argsR m c) ⟨k.val * 4 + g.val, by omega⟩ r := by
  rw [out11_apply, refP_eq, lsePAt]
theorem out12_col (k : Fin 8) (g : Fin 4) (r : Fin 2048) : out0_12 (y0 m c t) (y1 m c t) (y2 m c t) (y3 m c t) (y4 m c t) (y5 m c t) (y6 m c t) (y7 m c t) (y8 m c t) (y9 m c t) (ix3 k g r) = lseCAt (argsR m c) ⟨k.val * 4 + g.val, by omega⟩ r := by
  rw [out12_apply, refC_eq, lseCAt]

theorem out10_at (y : S2048x2048.Idx) : out0_10 (y0 m c t) (y1 m c t) (y2 m c t) (y3 m c t) (y4 m c t) (y5 m c t) (y6 m c t) (y7 m c t) (y8 m c t) (y9 m c t) y = resO (argsR m c) y := by
  have h1 : (y 1).val < 2048 := (y 1).isLt
  have e : y = ix2 (y 0) (⟨(⟨(y 1).val / 64, by omega⟩ : Fin 32).val * 64 + (⟨(y 1).val % 64, by omega⟩ : Fin 64).val, by
      show (y 1).val / 64 * 64 + (y 1).val % 64 < 2048; omega⟩ : Fin 2048) :=
    (eq_ix2 (n0 := 2048) (n1 := 2048) y).trans (congrArg (fun k : Fin 2048 => ix2 (y 0) k)
      (Fin.ext (by show (y 1).val = (y 1).val / 64 * 64 + (y 1).val % 64; omega)))
  exact (congrArg (out0_10 (y0 m c t) (y1 m c t) (y2 m c t) (y3 m c t) (y4 m c t) (y5 m c t) (y6 m c t) (y7 m c t) (y8 m c t) (y9 m c t)) e).trans (out10_col m c t ⟨(y 1).val / 64, by omega⟩ (y 0) ⟨(y 1).val % 64, by omega⟩)

theorem out11_at (y : S8x4x2048.Idx) : out0_11 (y0 m c t) (y1 m c t) (y2 m c t) (y3 m c t) (y4 m c t) (y5 m c t) (y6 m c t) (y7 m c t) (y8 m c t) (y9 m c t) y = resP (argsR m c) y :=
  (congrArg (out0_11 (y0 m c t) (y1 m c t) (y2 m c t) (y3 m c t) (y4 m c t) (y5 m c t) (y6 m c t) (y7 m c t) (y8 m c t) (y9 m c t)) (eq_ix3 (n0 := 8) (n1 := 4) (n2 := 2048) y)).trans (out11_col m c t (y 0) (y 1) (y 2))
theorem out12_at (y : S8x4x2048.Idx) : out0_12 (y0 m c t) (y1 m c t) (y2 m c t) (y3 m c t) (y4 m c t) (y5 m c t) (y6 m c t) (y7 m c t) (y8 m c t) (y9 m c t) y = resC (argsR m c) y :=
  (congrArg (out0_12 (y0 m c t) (y1 m c t) (y2 m c t) (y3 m c t) (y4 m c t) (y5 m c t) (y6 m c t) (y7 m c t) (y8 m c t) (y9 m c t)) (eq_ix3 (n0 := 8) (n1 := 4) (n2 := 2048) y)).trans (out12_col m c t (y 0) (y 1) (y 2))

/-! ## The arrays -/

theorem arr10 : (dats m 0 c).arrAt 10 cfg0.N = resO (argsR m c) := by
  refine (dats m 0 c).arrAt_eq_of_covers 10 (resO (argsR m c)) (by decide +kernel) fun t hf y => ?_
  blk_simp
  rw [after0_10]
  have e : (win0_10.blk t).view.emb y = y := by blk_ext [index10]
  exact (out10_at m c t y).trans (congrArg (resO (argsR m c)) e.symm)

theorem arr11 : (dats m 0 c).arrAt 11 cfg0.N = resP (argsR m c) := by
  refine (dats m 0 c).arrAt_eq_of_covers 11 (resP (argsR m c)) (by decide +kernel) fun t hf y => ?_
  blk_simp
  rw [after0_11]
  have e : (win0_11.blk t).view.emb y = y := by blk_ext [index11]
  exact (out11_at m c t y).trans (congrArg (resP (argsR m c)) e.symm)

theorem arr12 : (dats m 0 c).arrAt 12 cfg0.N = resC (argsR m c) := by
  refine (dats m 0 c).arrAt_eq_of_covers 12 (resC (argsR m c)) (by decide +kernel) fun t hf y => ?_
  blk_simp
  rw [after0_12]
  have e : (win0_12.blk t).view.emb y = y := by blk_ext [index12]
  exact (out12_at m c t y).trans (congrArg (resC (argsR m c)) e.symm)

end Cert.Att.Ref

end
-- ==== Proof.Att.RefRun.lean ====
/- The reference's run with each result named, window by window: what its one grid point writes back, and that the run
   leaves those arrays and the arguments. -/
module

public import proofs.«01_k».proof.Proof.Gen.ReferenceIdeal.Frame
public import Idealize.ShloMosaic.Lib.Pipeline.Value

@[expose] public section

noncomputable section

namespace Cert.ReferenceIdeal.Blocks

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 10).cut (grid0.coords t) ((dats m 0 c).after 10 t) = _
  rw [after0_10]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S2048x2048.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the body's result for that window (`Gen.out0_11`: its stores
    as pieces over the input windows' blocks), read through the window's block. -/
theorem flushed11 (c : Dev nD) (t : Fin cfg0.N) :
    (dats m 0 c).flushed 11 t = (cfg0.win 11).cut (grid0.coords t) (out0_11 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 11).cut (grid0.coords t) ((dats m 0 c).after 11 t) = _
  rw [after0_11]

/-- The index map sends distinct grid points to distinct block indices (decided over the 1 point). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S8x4x2048.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- WHAT POINT `t` WRITES BACK to output window 12's array: the body's result for that window (`Gen.out0_12`: its stores
    as pieces over the input windows' blocks), read through the window's block. -/
theorem flushed12 (c : Dev nD) (t : Fin cfg0.N) :
    (dats m 0 c).flushed 12 t = (cfg0.win 12).cut (grid0.coords t) (out0_12 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 12).cut (grid0.coords t) ((dats m 0 c).after 12 t) = _
  rw [after0_12]

/-- The index map sends distinct grid points to distinct block indices (decided over the 1 point). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S8x4x2048.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v44_0) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v44_1) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v44_2) = (dats m 0 c).arrAt 12 cfg0.N :=
  (h c).1 12

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v44_0) = (dats m 0 c).arrAt 10 cfg0.N
      ∧ r.2.mem ((c : Thread nD τ).loc main_v44_1) = (dats m 0 c).arrAt 11 cfg0.N
      ∧ r.2.mem ((c : Thread nD τ).loc main_v44_2) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post10 m r h c,
      post11 m r h c,
      post12 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.ReferenceIdeal.Blocks

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Frame
public import proofs.«01_k».proof.Proof.Att.KerRun
public import proofs.«01_k».proof.Proof.Att.Pre
public import proofs.«01_k».proof.Proof.Att.RefOut
public import proofs.«01_k».proof.Proof.Att.RefRun
public import Idealize.ShloMosaic.Adequacy
public import Idealize.ShloMosaic.Init

@[expose] public section

noncomputable section

namespace Cert.Proof

open Idealize.ShloMosaic Idealize.SL.Sem Cert.Att

/-- The three names of the ideal kernel are the constants they replace, read as exact reals. -/
theorem preserves : Cert.preserves_Kernel_KernelIdeal :=
  ⟨IdealRules.named_const.statement Cert.KernelIdeal.κ "scale_log2e" .f32 0x3E38AA3B#32 _ rfl,
    IdealRules.named_const.statement Cert.KernelIdeal.κ "mask" .f32 0xF149F2CA#32 _ rfl,
    IdealRules.named_const.statement Cert.KernelIdeal.κ "ln2" .f32 0x3F317218#32 _ rfl⟩

/-- Arguments that agree array by array are the same arguments. -/
theorem args_eq {A B : Args} (h0 : A.q = B.q) (h1 : A.qs = B.qs) (h2 : A.pk = B.pk) (h3 : A.pv = B.pv) (h4 : A.pks = B.pks) (h5 : A.pvs = B.pvs)
    (h6 : A.k = B.k) (h7 : A.v = B.v) (h8 : A.ks = B.ks) (h9 : A.vs = B.vs) : A = B := by
  cases A
  cases B
  congr

/-- Both programs end with the three results of the specification, read at the kernel's arguments. -/
theorem algebraic : Cert.algebraic_KernelIdeal_ReferenceIdeal_pre_finite (hKernelIdeal := Cert.KernelIdeal.Gen.facts)
    (hReferenceIdeal := Cert.ReferenceIdeal.Gen.facts) (hPre_finite := preFacts) := by
  intro m g m' g' hpre hagree
  have hA (c) : Cert.Att.Ref.argsR m' c = argsK m c := by
    obtain ⟨h0, h1, h2, h3, h4, h5, h6, h7, h8, h9⟩ := hagree c
    exact args_eq h0 h1 h2 h3 h4 h5 h6 h7 h8 h9
  refine ⟨fun c => resO (argsK m c), fun c => resP (argsK m c), fun c => resC (argsK m c), ?_, ?_⟩
  · refine (θ_run _ _ _).mono (fun r h c => ?_) (Cert.KernelIdeal.Value.run_blocks m g)
    obtain ⟨h0, h1, h2, hk⟩ := h c
    have hf := finite_of_pre hpre c
    exact ⟨h0.trans (arr10 hf), h1.trans (arr11 hf), h2.trans (arr12 hf), hk⟩
  · refine (θ_run _ _ _).mono (fun r h c => ?_) (Cert.ReferenceIdeal.Blocks.run_blocks m' g')
    obtain ⟨h0, h1, h2, hk⟩ := h c
    exact ⟨h0.trans ((Ref.arr10 m' c).trans (congrArg resO (hA c))), h1.trans ((Ref.arr11 m' c).trans (congrArg resP (hA c))),
      h2.trans ((Ref.arr12 m' c).trans (congrArg resC (hA c))), hk⟩

theorem claim : Cert.Claim :=
  ⟨Cert.Kernel.Gen.facts, Cert.KernelIdeal.Gen.facts, Cert.ReferenceIdeal.Gen.facts, preFacts,
    fun m ρ _ => Cert.Kernel.Gen.frame m ρ,
    fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    preserves, algebraic⟩

end Cert.Proof

end
